-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_numbers_and_classes [hPre_numbers_and_classes : Cert.Pre_numbers_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_numbers_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers_and_classes [hPre_numbers_and_classes : Cert.Pre_numbers_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_numbers_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_numbers_and_classes [hKernelIdeal : Cert.KernelIdeal.Facts] [hPre_numbers_and_classes : Cert.Pre_numbers_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_numbers_and_classes [hReferenceIdeal : Cert.ReferenceIdeal.Facts] [hPre_numbers_and_classes : Cert.Pre_numbers_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_numbers_and_classes [hKernelIdeal : Cert.KernelIdeal.Facts] [hReferenceIdeal : Cert.ReferenceIdeal.Facts] [hPre_numbers_and_classes : Cert.Pre_numbers_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_numbers_and_classes : Cert.Pre_numbers_and_classes.Facts),
    quiescent_Kernel (hKernel := hKernel)
    ∧ quiescent_KernelIdeal (hKernelIdeal := hKernelIdeal)
    ∧ quiescent_KernelIdeal_pre_numbers_and_classes (hKernelIdeal := hKernelIdeal) (hPre_numbers_and_classes := hPre_numbers_and_classes)
    ∧ quiescent_ReferenceIdeal (hReferenceIdeal := hReferenceIdeal)
    ∧ quiescent_ReferenceIdeal_pre_numbers_and_classes (hReferenceIdeal := hReferenceIdeal) (hPre_numbers_and_classes := hPre_numbers_and_classes)
    ∧ preserves_Kernel_KernelIdeal
    ∧ algebraic_KernelIdeal_ReferenceIdeal_pre_numbers_and_classes (hKernelIdeal := hKernelIdeal) (hReferenceIdeal := hReferenceIdeal) (hPre_numbers_and_classes := hPre_numbers_and_classes)
-- ==== Pre_numbers_and_classes.lean ====
abbrev S16384x500 : Shape := ⟨2, ![16384, 500]⟩
abbrev S1 : Shape := ⟨1, ![1]⟩
abbrev S16384 : Shape := ⟨1, ![16384]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S16384x500 : S_.BroadcastsInDim S16384x500 (![] : Fin 0 → Fin S16384x500.rank)
  bcast_S_S500x128 : S_.BroadcastsInDim S500x128 (![] : Fin 0 → Fin S500x128.rank)
  bcast_S_S128 : S_.BroadcastsInDim S128 (![] : Fin 0 → Fin S128.rank)
  bcast_S_S128x64 : S_.BroadcastsInDim S128x64 (![] : Fin 0 → Fin S128x64.rank)
  bcast_S_S64 : S_.BroadcastsInDim S64 (![] : Fin 0 → Fin S64.rank)
  bcast_S_S64x64 : S_.BroadcastsInDim S64x64 (![] : Fin 0 → Fin S64x64.rank)
  bcast_S_S64x2 : S_.BroadcastsInDim S64x2 (![] : Fin 0 → Fin S64x2.rank)
  bcast_S_S2 : S_.BroadcastsInDim S2 (![] : Fin 0 → Fin S2.rank)
  bcast_S_S16384 : S_.BroadcastsInDim S16384 (![] : Fin 0 → Fin S16384.rank)

variable [Facts]

def fn_part1 {F : FTy → Type} [FloatOps F] (main_arg2 : IVec S16384 32) (main_arg8 : FVec F S64 .f32) (main_arg9 : FVec F S64x2 .f32) (main_arg10 : FVec F S2 .f32) (main_v2 : IVec S16384x500 1) (main_v5 : IVec S500x128 1) (main_v8 : IVec S128 1) (main_v11 : IVec S128x64 1) (main_v14 : IVec S64 1) (main_v17 : IVec S64x64 1) : IVec S16384 1 × IVec S16384x500 1 × IVec S500x128 1 × IVec S128 1 × IVec S128x64 1 × IVec S64 1 × IVec S64x64 1 × IVec S64 1 × IVec S64x2 1 × IVec S2 1 :=
  let main_v18 : FVec F S64 .f32 := Host.absf main_arg8
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x2 .f32 := Host.absf main_arg9
  let main_cst_6 : FVec F S_ .f32 := constant S_ .f32 0x7F800000#32
  let main_v22 : FVec F S64x2 .f32 := broadcastInDim S64x2 ![] bcast_S_S64x2 main_cst_6
  let main_v23 : IVec S64x2 1 := cmpf .olt main_v21 main_v22
  let main_v24 : FVec F S2 .f32 := Host.absf main_arg10
  let main_cst_7 : FVec F S_ .f32 := constant S_ .f32 0x7F800000#32
  let main_v25 : FVec F S2 .f32 := broadcastInDim S2 ![] bcast_S_S2 main_cst_7
  let main_v26 : IVec S2 1 := cmpf .olt main_v24 main_v25
  let main_c : IVec S_ 32 := constantI S_ 32 0#32
  let main_v27 : IVec S16384 32 := broadcastInDim S16384 ![] bcast_S_S16384 main_c
  let main_v28 : IVec S16384 1 := cmpi .sge main_arg2 main_v27
  let main_c_8 : IVec S_ 32 := constantI S_ 32 2#32
  let main_v29 : IVec S16384 32 := broadcastInDim S16384 ![] bcast_S_S16384 main_c_8
  let main_v30 : IVec S16384 1 := cmpi .slt main_arg2 main_v29
  let main_v31 : IVec S16384 1 := andi main_v28 main_v30
  (main_v31, main_v2, main_v5, main_v8, main_v11, main_v14, main_v17, main_v20, main_v23, main_v26)

def fn {F : FTy → Type} [FloatOps F] (main_arg0 : FVec F S16384x500 .f32) (main_arg1 : FVec F S1 .f32) (main_arg2 : IVec S16384 32) (main_arg3 : FVec F S500x128 .f32) (main_arg4 : FVec F S128 .f32) (main_arg5 : FVec F S128x64 .f32) (main_arg6 : FVec F S64 .f32) (main_arg7 : FVec F S64x64 .f32) (main_arg8 : FVec F S64 .f32) (main_arg9 : FVec F S64x2 .f32) (main_arg10 : FVec F S2 .f32) : IVec S16384 1 × IVec S16384x500 1 × IVec S500x128 1 × IVec S128 1 × IVec S128x64 1 × IVec S64 1 × IVec S64x64 1 × IVec S64 1 × IVec S64x2 1 × IVec S2 1 :=
  let main_v0 : FVec F S16384x500 .f32 := Host.absf main_arg0
  let main_cst : FVec F S_ .f32 := constant S_ .f32 0x7F800000#32
  let main_v1 : FVec F S16384x500 .f32 := broadcastInDim S16384x500 ![] bcast_S_S16384x500 main_cst
  let main_v2 : IVec S16384x500 1 := cmpf .olt main_v0 main_v1
  let main_v3 : FVec F S500x128 .f32 := Host.absf main_arg3
  let main_cst_0 : FVec F S_ .f32 := constant S_ .f32 0x7F800000#32
  let main_v4 : FVec F S500x128 .f32 := broadcastInDim S500x128 ![] bcast_S_S500x128 main_cst_0
  let main_v5 : IVec S500x128 1 := cmpf .olt main_v3 main_v4
  let main_v6 : FVec F S128 .f32 := Host.absf main_arg4
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_v12 : FVec F S64 .f32 := Host.absf main_arg6
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64 .f32 := Host.absf main_arg7
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg2 main_arg8 main_arg9 main_arg10 main_v2 main_v5 main_v8 main_v11 main_v14 main_v17
-- ==== Kernel.lean ====
abbrev S16384x500 : Shape := ⟨2, ![16384, 500]⟩
abbrev S1 : Shape := ⟨1, ![1]⟩
abbrev S16384 : Shape := ⟨1, ![16384]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S500x16384 : Shape := ⟨2, ![500, 16384]⟩
abbrev S1x16384 : Shape := ⟨2, ![1, 16384]⟩
abbrev S1x128 : Shape := ⟨2, ![1, 128]⟩
abbrev S64x128 : Shape := ⟨2, ![64, 128]⟩
abbrev S1x64 : Shape := ⟨2, ![1, 64]⟩
abbrev S2x64 : Shape := ⟨2, ![2, 64]⟩
abbrev S1x2 : Shape := ⟨2, ![1, 2]⟩
abbrev S2x16384 : Shape := ⟨2, ![2, 16384]⟩
abbrev S64x16384 : Shape := ⟨2, ![64, 16384]⟩
abbrev S1x1 : Shape := ⟨2, ![1, 1]⟩
abbrev S16384x2 : Shape := ⟨2, ![16384, 2]⟩
abbrev S16384x64 : Shape := ⟨2, ![16384, 64]⟩
abbrev S16384x1x64 : Shape := ⟨3, ![16384, 1, 64]⟩
abbrev S_ : Shape := ⟨0, ![]⟩
abbrev S1x4096 : Shape := ⟨2, ![1, 4096]⟩
abbrev S2x4096 : Shape := ⟨2, ![2, 4096]⟩
abbrev S64x4096 : Shape := ⟨2, ![64, 4096]⟩
abbrev S2x500x4096 : Shape := ⟨3, ![2, 500, 4096]⟩
abbrev S2x4 : Shape := ⟨2, ![2, 4]⟩
abbrev S1x500x1024 : Shape := ⟨3, ![1, 500, 1024]⟩
abbrev S500x1024 : Shape := ⟨2, ![500, 1024]⟩
abbrev S1x500x4096 : Shape := ⟨3, ![1, 500, 4096]⟩
abbrev S500x4096 : Shape := ⟨2, ![500, 4096]⟩
abbrev S128x4096 : Shape := ⟨2, ![128, 4096]⟩
abbrev S128x1 : Shape := ⟨2, ![128, 1]⟩
abbrev S64x1 : Shape := ⟨2, ![64, 1]⟩
abbrev S2x1 : Shape := ⟨2, ![2, 1]⟩
abbrev S1x1x4096 : Shape := ⟨3, ![1, 1, 4096]⟩
abbrev S1x1x1 : Shape := ⟨3, ![1, 1, 1]⟩

abbrev nBuf : Space → Nat
  | .hbm => 30
  | .vmem => 20
  | .smem => 0
  | _ => 0

abbrev bufTy : (tb : Table) → Fin (tcTables nBuf tb) → BufTy
  | .hbm, ⟨0, _⟩ => ⟨S16384x500, .f32⟩
  | .hbm, ⟨1, _⟩ => ⟨S1, .f32⟩
  | .hbm, ⟨2, _⟩ => ⟨S16384, .i32⟩
  | .hbm, ⟨3, _⟩ => ⟨S500x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S500x16384, .f32⟩
  | .hbm, ⟨12, _⟩ => ⟨S1x16384, .i32⟩
  | .hbm, ⟨13, _⟩ => ⟨S1x128, .f32⟩
  | .hbm, ⟨14, _⟩ => ⟨S64x128, .f32⟩
  | .hbm, ⟨15, _⟩ => ⟨S1x64, .f32⟩
  | .hbm, ⟨16, _⟩ => ⟨S1x64, .f32⟩
  | .hbm, ⟨17, _⟩ => ⟨S2x64, .f32⟩
  | .hbm, ⟨18, _⟩ => ⟨S1x2, .f32⟩
  | .hbm, ⟨19, _⟩ => ⟨S2x16384, .f32⟩
  | .hbm, ⟨20, _⟩ => ⟨S1x16384, .i32⟩
  | .hbm, ⟨21, _⟩ => ⟨S64x16384, .f32⟩
  | .hbm, ⟨22, _⟩ => ⟨S64x16384, .f32⟩
  | .hbm, ⟨23, _⟩ => ⟨S1x1, .f32⟩
  | .hbm, ⟨24, _⟩ => ⟨S16384x2, .f32⟩
  | .hbm, ⟨25, _⟩ => ⟨S16384, .i32⟩
  | .hbm, ⟨26, _⟩ => ⟨S16384x64, .f32⟩
  | .hbm, ⟨27, _⟩ => ⟨S16384x64, .f32⟩
  | .hbm, ⟨28, _⟩ => ⟨S16384x1x64, .f32⟩
  | .hbm, ⟨29, _⟩ => ⟨S_, .f32⟩
  | .local _ .vmem, ⟨0, _⟩ => ⟨S1x4096, .i32⟩
  | .local _ .vmem, ⟨1, _⟩ => ⟨S1x4096, .i32⟩
  | .local _ .vmem, ⟨2, _⟩ => ⟨S500x128, .f32⟩
  | .local _ .vmem, ⟨3, _⟩ => ⟨S1x128, .f32⟩
  | .local _ .vmem, ⟨4, _⟩ => ⟨S64x128, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2x64, .f32⟩
  | .local _ .vmem, ⟨9, _⟩ => ⟨S1x2, .f32⟩
  | .local _ .vmem, ⟨10, _⟩ => ⟨S2x4096, .f32⟩
  | .local _ .vmem, ⟨11, _⟩ => ⟨S2x4096, .f32⟩
  | .local _ .vmem, ⟨12, _⟩ => ⟨S1x4096, .i32⟩
  | .local _ .vmem, ⟨13, _⟩ => ⟨S1x4096, .i32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S1x1, .f32⟩
  | .local _ .vmem, ⟨19, _⟩ => ⟨S2x500x4096, .f32⟩
  | _, _ => ⟨S16384x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8_0 : Ref sig .tc := ⟨.hbm, 19, rfl⟩
abbrev main_call0_v8_1 : Ref sig .tc := ⟨.hbm, 20, rfl⟩
abbrev main_call0_v8_2 : Ref sig .tc := ⟨.hbm, 21, rfl⟩
abbrev main_call0_v8_3 : Ref sig .tc := ⟨.hbm, 22, rfl⟩
abbrev main_call0_v8_4 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_call0_v12 : Ref sig .tc := ⟨.hbm, 27, rfl⟩
abbrev main_v0_3 : Ref sig .tc := ⟨.hbm, 28, rfl⟩
abbrev main_v0_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c4_i32 : BitVec 32 := 4#32
  let v4 : BitVec 1 := Scalar.cmpi .slt v3 c4_i32
  let v5 : BitVec 32 := Scalar.extui v4
  let c0_i32_1 : BitVec 32 := 0#32
  let v6 : BitVec 1 := Scalar.cmpi .ne v5 c0_i32_1
  v6

def k0_off1 (i : grid0.Coords) : Fin 2 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_92 : BitVec 32 := 0#32
  ![v150.toNat, 0]
def k0_off2 (i : grid0.Coords) : Fin 3 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_93 : BitVec 32 := 0#32
  let c0_i32_94 : BitVec 32 := 0#32
  ![v150.toNat, 0, 0]
def k0_off3 (i : grid0.Coords) (c0_i32_85 : BitVec 32) : Fin 2 → Nat :=
  let c0_i32_95 : BitVec 32 := 0#32
  let arg0 : BitVec 32 := BitVec.ofNat 32 (i 0).val
  let c1_i32_83 : BitVec 32 := 1#32
  let v151 : BitVec 32 := Scalar.addi arg0 c1_i32_83
  let c4096_i32_84 : BitVec 32 := 4096#32
  let v152 : BitVec 32 := Scalar.muli v151 c4096_i32_84
  let v153 : BitVec 32 := Scalar.addi v152 c0_i32_85
  ![0, v153.toNat]
def k0_off4 (i : grid0.Coords) : Fin 2 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c1_i32_96 : BitVec 32 := 1#32
  ![v150.toNat, 1]
def k0_off5 (i : grid0.Coords) : Fin 3 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_97 : BitVec 32 := 0#32
  let c1024_i32_98 : BitVec 32 := 1024#32
  ![v150.toNat, 0, 1024]
def k0_off6 (i : grid0.Coords) : Fin 2 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c2_i32_100 : BitVec 32 := 2#32
  ![v150.toNat, 2]
def k0_off7 (i : grid0.Coords) : Fin 3 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_101 : BitVec 32 := 0#32
  let c2048_i32_102 : BitVec 32 := 2048#32
  ![v150.toNat, 0, 2048]
def k0_off8 (i : grid0.Coords) : Fin 2 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c3_i32_104 : BitVec 32 := 3#32
  ![v150.toNat, 3]
def k0_off9 (i : grid0.Coords) : Fin 3 → Nat :=
  let arg0 : BitVec 32 := BitVec.ofNat 32 (i 0).val
  let c1_i32_76 : BitVec 32 := 1#32
  let v140 : BitVec 32 := Scalar.addi arg0 c1_i32_76
  let c2_i32_77 : BitVec 32 := 2#32
  let c0_i32_78 : BitVec 32 := 0#32
  let v141 : BitVec 1 := Scalar.cmpi .eq c2_i32_77 c0_i32_78
  let c1_i32_79 : BitVec 32 := 1#32
  let v142 : BitVec 32 := Scalar.select v141 c1_i32_79 c2_i32_77
  let v143 : BitVec 32 := Scalar.remsi v140 v142
  let c0_i32_81 : BitVec 32 := 0#32
  let v145 : BitVec 1 := Scalar.cmpi .slt v143 c0_i32_81
  let c0_i32_82 : BitVec 32 := 0#32
  let v146 : BitVec 1 := Scalar.cmpi .slt v142 c0_i32_82
  let v147 : BitVec 1 := Scalar.xori v145 v146
  let c0_i32_80 : BitVec 32 := 0#32
  let v144 : BitVec 1 := Scalar.cmpi .ne v143 c0_i32_80
  let v148 : BitVec 1 := Scalar.andi v147 v144
  let v149 : BitVec 32 := Scalar.addi v143 v142
  let v150 : BitVec 32 := Scalar.select v148 v149 v143
  let c0_i32_105 : BitVec 32 := 0#32
  let c3072_i32_106 : BitVec 32 := 3072#32
  ![v150.toNat, 0, 3072]
def k0_off10 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_11 : BitVec 32 := 0#32
  ![v16.toNat, 0]
def k0_off11 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_12 : BitVec 32 := 0#32
  let c0_i32_13 : BitVec 32 := 0#32
  ![v16.toNat, 0, 0]
def k0_off12 (i : grid0.Coords) (c0_i32_7 : BitVec 32) : Fin 2 → Nat :=
  let c0_i32_14 : BitVec 32 := 0#32
  let arg0 : BitVec 32 := BitVec.ofNat 32 (i 0).val
  let c4096_i32 : BitVec 32 := 4096#32
  let v17 : BitVec 32 := Scalar.muli arg0 c4096_i32
  let v18 : BitVec 32 := Scalar.addi v17 c0_i32_7
  ![0, v18.toNat]
def k0_off13 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_15 : BitVec 32 := 1#32
  ![v16.toNat, 1]
def k0_off14 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_16 : BitVec 32 := 0#32
  let c1024_i32_17 : BitVec 32 := 1024#32
  ![v16.toNat, 0, 1024]
def k0_off15 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_19 : BitVec 32 := 2#32
  ![v16.toNat, 2]
def k0_off16 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_20 : BitVec 32 := 0#32
  let c2048_i32_21 : BitVec 32 := 2048#32
  ![v16.toNat, 0, 2048]
def k0_off17 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32 : BitVec 32 := 3#32
  ![v16.toNat, 3]
def k0_off18 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_23 : BitVec 32 := 0#32
  let c3072_i32_24 : BitVec 32 := 3072#32
  ![v16.toNat, 0, 3072]
def k0_off19 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v55 : Index := Scalar.indexCast v54
  let c0 : Index := 0#32
  let c0_32 : Index := 0#32
  ![v55.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x500 : Shape := ⟨2, ![16384, 500]⟩
abbrev S1 : Shape := ⟨1, ![1]⟩
abbrev S16384 : Shape := ⟨1, ![16384]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x1x64 : Shape := ⟨3, ![16384, 1, 64]⟩
abbrev S16384x2 : Shape := ⟨2, ![16384, 2]⟩
abbrev S1x2 : Shape := ⟨2, ![1, 2]⟩
abbrev S16384x1 : Shape := ⟨2, ![16384, 1]⟩
abbrev S16384x1x1 : Shape := ⟨3, ![16384, 1, 1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x500, .f32⟩
  | .hbm, ⟨1, _⟩ => ⟨S1, .f32⟩
  | .hbm, ⟨2, _⟩ => ⟨S16384, .i32⟩
  | .hbm, ⟨3, _⟩ => ⟨S500x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S16384x128, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384x128, .f32⟩
  | .hbm, ⟨17, _⟩ => ⟨S16384x128, .i1⟩
  | .hbm, ⟨18, _⟩ => ⟨S_, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x64, .f32⟩
  | .hbm, ⟨23, _⟩ => ⟨S1x64, .f32⟩
  | .hbm, ⟨24, _⟩ => ⟨S16384x64, .f32⟩
  | .hbm, ⟨25, _⟩ => ⟨S16384x64, .f32⟩
  | .hbm, ⟨26, _⟩ => ⟨S16384x1x64, .f32⟩
  | .hbm, ⟨27, _⟩ => ⟨S16384x64, .f32⟩
  | .hbm, ⟨28, _⟩ => ⟨S1x64, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .i1⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x2, .f32⟩
  | .hbm, ⟨39, _⟩ => ⟨S1x2, .f32⟩
  | .hbm, ⟨40, _⟩ => ⟨S16384x2, .f32⟩
  | .hbm, ⟨41, _⟩ => ⟨S16384x2, .f32⟩
  | .hbm, ⟨42, _⟩ => ⟨S_, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384x1, .f32⟩
  | .hbm, ⟨48, _⟩ => ⟨S16384x2, .f32⟩
  | .hbm, ⟨49, _⟩ => ⟨S16384x2, .f32⟩
  | .hbm, ⟨50, _⟩ => ⟨S16384x2, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S16384x1, .f32⟩
  | .hbm, ⟨55, _⟩ => ⟨S16384x2, .f32⟩
  | .hbm, ⟨56, _⟩ => ⟨S16384x2, .f32⟩
  | .hbm, ⟨57, _⟩ => ⟨S16384x1, .i32⟩
  | .hbm, ⟨58, _⟩ => ⟨S_, .i32⟩
  | .hbm, ⟨59, _⟩ => ⟨S16384x1, .i32⟩
  | .hbm, ⟨60, _⟩ => ⟨S16384x1, .i1⟩
  | .hbm, ⟨61, _⟩ => ⟨S_, .i32⟩
  | .hbm, ⟨62, _⟩ => ⟨S16384x1, .i32⟩
  | .hbm, ⟨63, _⟩ => ⟨S16384x1, .i32⟩
  | .hbm, ⟨64, _⟩ => ⟨S16384x1, .i32⟩
  | .hbm, ⟨65, _⟩ => ⟨S16384x1x1, .i32⟩
  | .hbm, ⟨66, _⟩ => ⟨S1, .i32⟩
  | .hbm, ⟨67, _⟩ => ⟨S_, .i32⟩
  | .hbm, ⟨68, _⟩ => ⟨S16384x1x1, .i32⟩
  | .hbm, ⟨69, _⟩ => ⟨S16384x1x1, .i1⟩
  | .hbm, ⟨70, _⟩ => ⟨S1x1x1, .i32⟩
  | .hbm, ⟨71, _⟩ => ⟨S16384x1x1, .i32⟩
  | .hbm, ⟨72, _⟩ => ⟨S16384x1x1, .i1⟩
  | .hbm, ⟨73, _⟩ => ⟨S16384x1x1, .i1⟩
  | .hbm, ⟨74, _⟩ => ⟨S_, .i1⟩
  | .hbm, ⟨75, _⟩ => ⟨S16384x1, .i1⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16384x2, .i32⟩
  | .hbm, ⟨86, _⟩ => ⟨S_, .f32⟩
  | .hbm, ⟨87, _⟩ => ⟨S_, .i32⟩
  | .hbm, ⟨88, _⟩ => ⟨S16384, .f32⟩
  | .hbm, ⟨89, _⟩ => ⟨S16384, .i32⟩
  | .hbm, ⟨90, _⟩ => ⟨S_, .f32⟩
  | .hbm, ⟨91, _⟩ => ⟨S16384, .f32⟩
  | .hbm, ⟨92, _⟩ => ⟨S_, .f32⟩
  | .hbm, ⟨93, _⟩ => ⟨S16384, .f32⟩
  | .hbm, ⟨94, _⟩ => ⟨S16384, .f32⟩
  | .hbm, ⟨95, _⟩ => ⟨S16384x1, .f32⟩
  | .hbm, ⟨96, _⟩ => ⟨S16384x2, .f32⟩
  | .hbm, ⟨97, _⟩ => ⟨S16384x2, .f32⟩
  | .hbm, ⟨98, _⟩ => ⟨S16384x2, .f32⟩
  | .hbm, ⟨99, _⟩ => ⟨S_, .f32⟩
  | .hbm, ⟨100, _⟩ => ⟨S16384, .f32⟩
  | .hbm, ⟨101, _⟩ => ⟨S16384x1, .f32⟩
  | .hbm, ⟨102, _⟩ => ⟨S16384x2, .f32⟩
  | .hbm, ⟨103, _⟩ => ⟨S16384x2, .f32⟩
  | _, _ => ⟨S16384x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v27 : Ref sig .tc := ⟨.hbm, 56, rfl⟩
abbrev main_v28 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_cst : Ref sig .tc := ⟨.hbm, 77, rfl⟩
abbrev main_call3_v14 : Ref sig .tc := ⟨.hbm, 78, rfl⟩
abbrev main_v29 : Ref sig .tc := ⟨.hbm, 79, rfl⟩
abbrev main_cst_3 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_v32 : Ref sig .tc := ⟨.hbm, 84, rfl⟩
abbrev main_call4_v0 : Ref sig .tc := ⟨.hbm, 85, rfl⟩
abbrev main_call4_cst : Ref sig .tc := ⟨.hbm, 86, rfl⟩
abbrev main_call4_c : Ref sig .tc := ⟨.hbm, 87, rfl⟩
abbrev main_call4_v1_0 : Ref sig .tc := ⟨.hbm, 88, rfl⟩
abbrev main_v33 : Ref sig .tc := ⟨.hbm, 89, rfl⟩
abbrev main_cst_5 : Ref sig .tc := ⟨.hbm, 90, rfl⟩
abbrev main_v34 : Ref sig .tc := ⟨.hbm, 91, rfl⟩
abbrev main_cst_6 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_7 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩

abbrev nD : Nat := 1
abbrev τ : Topo := Topo.v7x

variable {F : FTy → Type} [FloatOps F]
-- ==== Proof.Slots.lean ====
/-
  The double buffer of the kernel: two slots of `x_buf`, each filled by four transfers (one strip of 1024 columns
  each) on four cells of its own. This module names the slots, strips and cells at variable slot, strip and block,
  says what a slot holds in each of its two states (free, or being filled with a block), and proves that the four
  landed strips of a slot are the slot holding its block.
-/
module

public import proofs.«01_k».proof.Proof.Gen.KernelIdeal.Frame
public import Idealize.ShloMosaic.Lib.Ring
public import Idealize.ShloMosaic.Lib.Ring.AtN
public import Idealize.ShloMosaic.Lib.Pipeline.FrameBody
public import Idealize.ShloMosaic.Lib.Tactic
public import Idealize.ShloMosaic.Lib.ViewIndex
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance : NeZero grid0.N := ⟨by rw [N_0]; decide⟩

/-! ## Names -/

/-- The double buffer, and the operand the transfers read. -/
abbrev xbuf : Memref sig .tc .vmem S2x500x4096 .f32 := Memref.whole cc0_scratch0
abbrev texts : Memref sig .tc .hbm S500x16384 .f32 := Memref.whole main_call0_v0

theorem block_inb (b : Fin 4) : ∀ a, (![0, 4096 * b.val] : Fin 2 → Nat) a + S500x4096.size a ≤ S500x16384.size a := by
  intro a; fin_cases a <;> simp <;> omega
theorem slot_inb (s : Fin 2) : ∀ a, (![s.val, 0, 0] : Fin 3 → Nat) a + S1x500x4096.size a ≤ S2x500x4096.size a := by
  intro a; fin_cases a <;> simp <;> omega
theorem part_inb (s : Fin 2) (j : Fin 4) :
    ∀ a, (![s.val, 0, 1024 * j.val] : Fin 3 → Nat) a + S1x500x1024.size a ≤ S2x500x4096.size a := by
  intro a; fin_cases a <;> simp <;> omega
theorem strip_inb (b j : Fin 4) :
    ∀ a, (![0, 4096 * b.val + 1024 * j.val] : Fin 2 → Nat) a + S500x1024.size a ≤ S500x16384.size a := by
  intro a; fin_cases a <;> simp <;> omega
theorem cell_inb (s : Fin 2) (j : Fin 4) : ∀ a, (![s.val, j.val] : Fin 2 → Nat) a + S1x1.size a ≤ S2x4.size a := by
  intro a; fin_cases a <;> simp <;> omega

theorem squeezes_slot : S1x500x4096.Squeezes S500x4096 := by decide

/-- Slot `s`; its strip `j`; strip `j` of block `b` of the operand; the cell of slot `s`'s strip `j`. -/
def slot (s : Fin 2) : Memref sig .tc .vmem S500x4096 .f32 :=
  (xbuf.slice (Rect.unit (s := S2x500x4096) ![s.val, 0, 0] S1x500x4096.size (slot_inb s)) (fun _ => rfl)).squeeze S500x4096 squeezes_slot
def part (s : Fin 2) (j : Fin 4) : Memref sig .tc .vmem S500x1024 .f32 :=
  (xbuf.slice (Rect.unit (s := S2x500x4096) ![s.val, 0, 1024 * j.val] S1x500x1024.size (part_inb s j)) (fun _ => rfl)).squeeze
    S500x1024 squeezes_S1x500x1024_S500x1024
def strip (b j : Fin 4) : Memref sig .tc .hbm S500x1024 .f32 :=
  texts.slice (Rect.unit (s := S500x16384) ![0, 4096 * b.val + 1024 * j.val] S500x1024.size (strip_inb b j)) (fun _ => rfl)
def cellArr (s : Fin 2) (j : Fin 4) : DmaSems sig S_ :=
  (cc0_scratch1.slice (Rect.unit (s := S2x4) ![s.val, j.val] S1x1.size (cell_inb s j))).squeeze S_ squeezes_S1x1_S_
abbrev cell (s : Fin 2) (j : Fin 4) : SemLoc sig := SemLoc.dma (cellArr s j).sem

/-- A printed view is the named one as soon as the offsets agree. -/
theorem part_eq {off : Fin 3 → Nat} (s : Fin 2) (j : Fin 4) (h : off = ![s.val, 0, 1024 * j.val]) (inb) :
    (xbuf.slice (Rect.unit (s := S2x500x4096) off S1x500x1024.size inb) (fun _ => rfl)).squeeze S500x1024
      squeezes_S1x500x1024_S500x1024 = part s j := by subst h; rfl
theorem strip_eq {off : Fin 2 → Nat} (b j : Fin 4) (h : off = ![0, 4096 * b.val + 1024 * j.val]) (inb) :
    texts.slice (Rect.unit (s := S500x16384) off S500x1024.size inb) (fun _ => rfl) = strip b j := by subst h; rfl
theorem cell_eq {off : Fin 2 → Nat} (s : Fin 2) (j : Fin 4) (h : off = ![s.val, j.val]) (inb) :
    (cc0_scratch1.slice (Rect.unit (s := S2x4) off S1x1.size inb)).squeeze S_ squeezes_S1x1_S_ = cellArr s j := by
  subst h; rfl

/-! ## Element sets -/

abbrev slotSet (s : Fin 2) : Finset S2x500x4096.Idx := (Rect.unit (s := S2x500x4096) ![s.val, 0, 0] S1x500x4096.size (slot_inb s)).set
abbrev partSet (s : Fin 2) (j : Fin 4) : Finset S2x500x4096.Idx :=
  (Rect.unit (s := S2x500x4096) ![s.val, 0, 1024 * j.val] S1x500x1024.size (part_inb s j)).set
abbrev stripSet (b j : Fin 4) : Finset S500x16384.Idx :=
  (Rect.unit (s := S500x16384) ![0, 4096 * b.val + 1024 * j.val] S500x1024.size (strip_inb b j)).set
/-- The elements of block `b` of the operand. -/
abbrev blockSet (b : Fin 4) : Finset S500x16384.Idx :=
  (Rect.unit (s := S500x16384) ![0, 4096 * b.val] S500x4096.size (block_inb b)).set

theorem slot_set (s : Fin 2) : (slot s).view.set = slotSet s := by
  simp only [slot, Memref.view_squeeze, View.set_reshape]; exact View.set_slice_whole _ _
theorem part_set (s : Fin 2) (j : Fin 4) : (part s j).view.set = partSet s j := by
  simp only [part, Memref.view_squeeze, View.set_reshape]; exact View.set_slice_whole _ _
theorem strip_set (b j : Fin 4) : (strip b j).view.set = stripSet b j := by
  simp only [strip]; exact View.set_slice_whole _ _

/-- Membership in the three sets, as ranges of the coordinates. -/
theorem mem_slotSet (s : Fin 2) (x : S2x500x4096.Idx) : x ∈ slotSet s ↔ (x 0).val = s.val := by
  have h1 : (x 1).val < 500 := (x 1).isLt
  have h2 : (x 2).val < 4096 := (x 2).isLt
  rw [Rect.mem_set_unit]
  simp [Fin.forall_fin_succ]
  omega
theorem mem_partSet (s : Fin 2) (j : Fin 4) (x : S2x500x4096.Idx) :
    x ∈ partSet s j ↔ (x 0).val = s.val ∧ 1024 * j.val ≤ (x 2).val ∧ (x 2).val < 1024 * j.val + 1024 := by
  have h1 : (x 1).val < 500 := (x 1).isLt
  rw [Rect.mem_set_unit]
  simp [Fin.forall_fin_succ]
  omega
theorem mem_stripSet (b j : Fin 4) (x : S500x16384.Idx) :
    x ∈ stripSet b j ↔ 4096 * b.val + 1024 * j.val ≤ (x 1).val ∧ (x 1).val < 4096 * b.val + 1024 * j.val + 1024 := by
  have h0 : (x 0).val < 500 := (x 0).isLt
  rw [Rect.mem_set_unit]
  simp [Fin.forall_fin_succ]
  omega
theorem mem_blockSet (b : Fin 4) (x : S500x16384.Idx) :
    x ∈ blockSet b ↔ 4096 * b.val ≤ (x 1).val ∧ (x 1).val < 4096 * b.val + 4096 := by
  have h0 : (x 0).val < 500 := (x 0).isLt
  rw [Rect.mem_set_unit]
  simp [Fin.forall_fin_succ]
  omega

/-- The strips of a slot are apart and make it up; so are a block's strips of the operand, and the slots. -/
theorem part_disjoint (s : Fin 2) (i j : Fin 4) (h : i ≠ j) : Disjoint (partSet s i) (partSet s j) :=
  Finset.disjoint_left.2 fun x hx hy => by
    rw [mem_partSet] at hx hy
    exact h (Fin.ext (by omega))
theorem part_cover (s : Fin 2) : (Finset.univ.biUnion fun j => partSet s j) = slotSet s := by
  ext x
  have h2 : (x 2).val < 4096 := (x 2).isLt
  rw [Finset.mem_biUnion, mem_slotSet]
  constructor
  · intro h
    obtain ⟨j, -, h⟩ := h
    exact ((mem_partSet s j x).1 h).1
  · intro h
    exact ⟨⟨(x 2).val / 1024, by omega⟩, Finset.mem_univ _, (mem_partSet _ _ _).2 ⟨h, by dsimp only; omega, by dsimp only; omega⟩⟩
theorem strip_disjoint (b i j : Fin 4) (h : i ≠ j) : Disjoint (stripSet b i) (stripSet b j) :=
  Finset.disjoint_left.2 fun x hx hy => by
    rw [mem_stripSet] at hx hy
    exact h (Fin.ext (by omega))
theorem strip_cover (b : Fin 4) (x : S500x16384.Idx) : (∃ j, x ∈ stripSet b j) ↔ x ∈ blockSet b := by
  rw [mem_blockSet]
  constructor
  · intro h
    obtain ⟨j, h⟩ := h
    have := (mem_stripSet b j x).1 h
    omega
  · intro h
    exact ⟨⟨((x 1).val - 4096 * b.val) / 1024, by omega⟩, (mem_stripSet _ _ _).2 ⟨by dsimp only; omega, by dsimp only; omega⟩⟩
theorem slot_disjoint (s u : Fin 2) (h : s ≠ u) : Disjoint (slotSet s) (slotSet u) :=
  Finset.disjoint_left.2 fun x hx hy => by
    rw [mem_slotSet] at hx hy
    exact h (Fin.ext (by omega))
theorem slot_cover : (Finset.univ.biUnion fun s => slotSet s) = Finset.univ := by
  ext x
  exact ⟨fun _ => Finset.mem_univ _, fun _ => Finset.mem_biUnion.2 ⟨x 0, Finset.mem_univ _, (mem_slotSet _ _).2 rfl⟩⟩

/-! ## Resources -/

section Res
variable (c : Dev nD) (W : Buf (Elt F) ((c : Thread nD τ).loc main_call0_v0))

abbrev XBuf : Type := Buf (Elt F) ((c : Thread nD τ).loc cc0_scratch0)

/-- The slots of the double buffer when block `b` of the operand lies in them. -/
def fill (b : Fin 4) : XBuf (F := F) c := fun x =>
  W (ValueIdx.ix2 (n0 := 500) (n1 := 16384) ⟨(x 1).val, (x 1).isLt⟩
    ⟨4096 * b.val + (x 2).val, by have : (x 2).val < 4096 := (x 2).isLt; omega⟩)

/-- Slot `s` lends its transfers this half of the operand. -/
abbrev half (s : Fin 2) : PosShare TreeShare := if s.val = 0 then fullShare.left else fullShare.right

abbrev slotPt (s : Fin 2) (f : XBuf (F := F) c) : sProp 𝕄 := (slot s).view.loc (c : Thread nD τ) ↦[(slot s).view.set]{fullShare} f
abbrev partPt (s : Fin 2) (j : Fin 4) (f : XBuf (F := F) c) : sProp 𝕄 :=
  (part s j).view.loc (c : Thread nD τ) ↦[(part s j).view.set]{fullShare} f
abbrev cellPt (s : Fin 2) (j : Fin 4) : sProp 𝕄 := semVal ((c : Thread nD τ), cell s j) 0
abbrev stripPt (s : Fin 2) (b j : Fin 4) : sProp 𝕄 :=
  (strip b j).view.loc (c : Thread nD τ) ↦[(strip b j).view.set]{half s} W
abbrev wholePt (s : Fin 2) : sProp 𝕄 := ((c : Thread nD τ).loc main_call0_v0) ↦[Finset.univ]{half s} W
/-- The half of the operand without block `b`'s strips. -/
def restPt (s : Fin 2) (b : Fin 4) : sProp 𝕄 :=
  ((c : Thread nD τ).loc main_call0_v0) ↦[Finset.univ \ blockSet b]{half s} W
/-- Slot `s`'s strip `j` after strip `j` of block `b` landed in it. -/
abbrev landed (s : Fin 2) (b j : Fin 4) (f : XBuf (F := F) c) : XBuf (F := F) c :=
  (part s j).view.writes (Elt F) f [⟨Rect.whole S500x1024, ReadAs.same.apply ((strip b j).view.read (Elt F) W)⟩]
abbrev flightPt (s : Fin 2) (b j : Fin 4) (f : XBuf (F := F) c) : sProp 𝕄 :=
  Transfers.Flight countersEmb (c : Thread nD τ) (cell s j) default ((part s j).view.amount (cell s j))
    iprop(partPt c s j (landed c W s b j f) ∗ stripPt c W s b j)

/-- Four of a kind, one per strip. -/
abbrev four (Φ : Fin 4 → sProp 𝕄) : sProp 𝕄 := iprop(Φ 0 ∗ Φ 1 ∗ Φ 2 ∗ Φ 3)

/-- A slot nobody is writing, with its cells and its half of the operand. -/
def free (s : Fin 2) : sProp 𝕄 := iprop((∃ f, slotPt c s f) ∗ four (fun j => cellPt (F := F) c s j) ∗ wholePt c W s)
/-- A slot block `b` is on its way into. -/
def flying (s : Fin 2) (b : Fin 4) : sProp 𝕄 := iprop(∃ f, four (fun j => flightPt c W s b j f) ∗ restPt c W s b)

/-- What step `k`'s slot is before the step: block `k` on its way into it (before the first step and after the last, nothing). -/
def incoming (k : ℕ) : sProp 𝕄 := if 1 ≤ k ∧ k < 4 then flying c W (Ring.sl 2 k) (Ring.bk 4 k) else free c W (Ring.sl 2 k)
/-- The double buffer before step `k`. -/
def ringAt (k : ℕ) : sProp 𝕄 := iprop(incoming c W k ∗ free c W (Ring.sl 2 (k + 1)))
/-- Block `b` on its way into slot `s`, its first strip already there. -/
def arriving (s : Fin 2) (b : Fin 4) : sProp 𝕄 :=
  iprop(∃ f, (partPt c s 0 (landed c W s b 0 f) ∗ cellPt (F := F) c s 0 ∗ stripPt c W s b 0)
    ∗ (flightPt c W s b 1 f ∗ flightPt c W s b 2 f ∗ flightPt c W s b 3 f) ∗ restPt c W s b)

omit [FloatOps F] in
theorem four_eq (Φ : Fin 4 → sProp 𝕄) : four Φ = bigSep Finset.univ Φ := (Ring.bigSep_fin4 Φ).symm

omit [FloatOps F] in
/-- What lies in a strip after its transfer is the block. -/
theorem landed_eq (s : Fin 2) (b j : Fin 4) (f : XBuf (F := F) c) :
    ∀ x ∈ (part s j).view.set, landed c W s b j f x = fill c W b x := by
  intro x hx
  obtain ⟨i, -, rfl⟩ := Finset.mem_map.1 hx
  refine View.eq_of_read_eq (v := (part s j).view) ?_
  refine (congrFun (View.read_writes_whole (part s j).view f _) i).trans ?_
  obtain ⟨p, q, rfl⟩ : ∃ p q, i = ValueIdx.ix2 (n0 := 500) (n1 := 1024) p q := ⟨_, _, ValueIdx.eq_ix2 i⟩
  have hr := ValueIdx.reshapeEquiv_ix2_1ab (a := 500) (b := 1024) (Shape.Squeezes.numel_eq squeezes_S1x500x1024_S500x1024) p q
  have he : (part s j).view.emb (ValueIdx.ix2 (n0 := 500) (n1 := 1024) p q)
      = (Rect.unit (s := S2x500x4096) ![s.val, 0, 1024 * j.val] S1x500x1024.size (part_inb s j)).emb
          (ValueIdx.ix3 (⟨0, Nat.one_pos⟩ : Fin 1) p q) :=
    congrArg (fun y => (Rect.unit (s := S2x500x4096) ![s.val, 0, 1024 * j.val] S1x500x1024.size (part_inb s j)).emb y) hr
  refine congrArg W ((ValueIdx.eq_ix2 _).trans ?_)
  rw [he]
  congr 1
  · refine Fin.ext ?_
    show 4096 * b.val + 1024 * j.val + 1 * q.val = 4096 * b.val + (1024 * j.val + 1 * q.val)
    omega

omit [FloatOps F] in
theorem slot_split (s : Fin 2) (f : XBuf (F := F) c) : slotPt c s f = four (fun j => partPt c s j f) := by
  have h : ∀ j, partPt c s j f = (((c : Thread nD τ).loc cc0_scratch0) ↦[partSet s j]{fullShare} f : sProp 𝕄) := fun j =>
    congrArg (fun S => (((c : Thread nD τ).loc cc0_scratch0) ↦[S]{fullShare} f : sProp 𝕄)) (part_set s j)
  refine (congrArg (fun S => (((c : Thread nD τ).loc cc0_scratch0) ↦[S]{fullShare} f : sProp 𝕄)) (slot_set s)).trans ?_
  refine (Ring.pointsTo_sub_blocks (fun j => partSet s j) (part_disjoint s) _ (part_cover s) f).trans ?_
  exact (four_eq _).symm.trans (congrArg four (funext fun j => (h j).symm))

omit [FloatOps F] in
/-- The four landed strips are the slot at its block. -/
theorem slot_landed (s : Fin 2) (b : Fin 4) (f : XBuf (F := F) c) :
    four (fun j => partPt c s j (landed c W s b j f)) = slotPt c s (fill c W b) :=
  (congrArg four (funext fun j => pointsTo_congr (landed_eq c W s b j f))).trans (slot_split c s (fill c W b)).symm

/-- A half of the operand is block `b`'s four strips of it and the rest. -/
theorem whole_split (s : Fin 2) (b : Fin 4) : wholePt c W s ⊣⊢ iprop(four (fun j => stripPt c W s b j) ∗ restPt c W s b) := by
  have h : ∀ j, stripPt c W s b j = (((c : Thread nD τ).loc main_call0_v0) ↦[stripSet b j]{half s} W : sProp 𝕄) := fun j =>
    congrArg (fun S => (((c : Thread nD τ).loc main_call0_v0) ↦[S]{half s} W : sProp 𝕄)) (strip_set b j)
  have hb : (((c : Thread nD τ).loc main_call0_v0) ↦[blockSet b]{half s} W : sProp 𝕄)
      = bigSep Finset.univ fun j => ((c : Thread nD τ).loc main_call0_v0) ↦[stripSet b j]{half s} W :=
    Ring.pointsTo_sub_blocks (ℓ := (c : Thread nD τ).loc main_call0_v0) (fun j => stripSet b j) (strip_disjoint b) _
      (Finset.ext fun x => by rw [Finset.mem_biUnion]; simpa using strip_cover b x) W
  have hf := (congrArg four (funext h)).trans ((four_eq _).trans hb.symm)
  have hs : (wholePt c W s : sProp 𝕄) ⊣⊢ iprop((((c : Thread nD τ).loc main_call0_v0) ↦[blockSet b]{half s} W)
      ∗ restPt c W s b) := by
    unfold restPt; exact pointsTo_split_subset (Finset.subset_univ _)
  exact hf.symm ▸ hs
end Res

end Cert.KernelIdeal.Body

end
-- ==== Proof.Names.lean ====
/-
  The views the body prints at grid point `t`, named: the transfers it starts fill slot `t + 1` with block `t + 1`, the
  ones it waits for filled slot `t` with block `t`. And its conditions, in terms of `t`.
-/
module

public import proofs.«01_k».proof.Proof.Slots

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem first_iff : ∀ t : Fin grid0.N, Scalar.cmpi .ne (Scalar.extui (Scalar.cmpi .eq (BitVec.ofNat 32 (grid0.coords t 0).val) 0#32) : BitVec 32) 0#32 = 1#1 ↔ t.val = 0 := by
  decide +kernel
theorem next_iff : ∀ t : Fin grid0.N, k0_cond2 (grid0.coords t) = 1#1 ↔ t.val < 3 := by decide +kernel

section Canon
variable (t : Fin grid0.N)

/-! Of the transfers started. -/

theorem off2_eq : ∀ t : Fin grid0.N, k0_off2 (grid0.coords t) = ![(Ring.sl 2 (t.val + 1)).val, 0, 1024 * (0 : Fin 4).val] := by decide +kernel
@[sl_canon] theorem part_off2 (h : k0_cond2 (grid0.coords t) = 1#1) :
    (xbuf.slice (Rect.unit (s := S2x500x4096) (k0_off2 (grid0.coords t)) S1x500x1024.size (k0_off2_inb (grid0.coords t) h)) (fun _ => rfl)).squeeze
      S500x1024 squeezes_S1x500x1024_S500x1024 = part (Ring.sl 2 (t.val + 1)) 0 := part_eq _ _ (off2_eq t) _
theorem off5_eq : ∀ t : Fin grid0.N, k0_off5 (grid0.coords t) = ![(Ring.sl 2 (t.val + 1)).val, 0, 1024 * (1 : Fin 4).val] := by decide +kernel
@[sl_canon] theorem part_off5 (h : k0_cond2 (grid0.coords t) = 1#1) :
    (xbuf.slice (Rect.unit (s := S2x500x4096) (k0_off5 (grid0.coords t)) S1x500x1024.size (k0_off5_inb (grid0.coords t) h)) (fun _ => rfl)).squeeze
      S500x1024 squeezes_S1x500x1024_S500x1024 = part (Ring.sl 2 (t.val + 1)) 1 := part_eq _ _ (off5_eq t) _
theorem off7_eq : ∀ t : Fin grid0.N, k0_off7 (grid0.coords t) = ![(Ring.sl 2 (t.val + 1)).val, 0, 1024 * (2 : Fin 4).val] := by decide +kernel
@[sl_canon] theorem part_off7 (h : k0_cond2 (grid0.coords t) = 1#1) :
    (xbuf.slice (Rect.unit (s := S2x500x4096) (k0_off7 (grid0.coords t)) S1x500x1024.size (k0_off7_inb (grid0.coords t) h)) (fun _ => rfl)).squeeze
      S500x1024 squeezes_S1x500x1024_S500x1024 = part (Ring.sl 2 (t.val + 1)) 2 := part_eq _ _ (off7_eq t) _
theorem off9_eq : ∀ t : Fin grid0.N, k0_off9 (grid0.coords t) = ![(Ring.sl 2 (t.val + 1)).val, 0, 1024 * (3 : Fin 4).val] := by decide +kernel
@[sl_canon] theorem part_off9 (h : k0_cond2 (grid0.coords t) = 1#1) :
    (xbuf.slice (Rect.unit (s := S2x500x4096) (k0_off9 (grid0.coords t)) S1x500x1024.size (k0_off9_inb (grid0.coords t) h)) (fun _ => rfl)).squeeze
      S500x1024 squeezes_S1x500x1024_S500x1024 = part (Ring.sl 2 (t.val + 1)) 3 := part_eq _ _ (off9_eq t) _
theorem off1_eq : ∀ t : Fin grid0.N, k0_off1 (grid0.coords t) = ![(Ring.sl 2 (t.val + 1)).val, (0 : Fin 4).val] := by decide +kernel
@[sl_canon] theorem cell_off1 (h : k0_cond2 (grid0.coords t) = 1#1) :
    (cc0_scratch1.slice (Rect.unit (s := S2x4) (k0_off1 (grid0.coords t)) S1x1.size (k0_off1_inb (grid0.coords t) h))).squeeze S_ squeezes_S1x1_S_
      = cellArr (Ring.sl 2 (t.val + 1)) 0 := cell_eq _ _ (off1_eq t) _
theorem off4_eq : ∀ t : Fin grid0.N, k0_off4 (grid0.coords t) = ![(Ring.sl 2 (t.val + 1)).val, (1 : Fin 4).val] := by decide +kernel
@[sl_canon] theorem cell_off4 (h : k0_cond2 (grid0.coords t) = 1#1) :
    (cc0_scratch1.slice (Rect.unit (s := S2x4) (k0_off4 (grid0.coords t)) S1x1.size (k0_off4_inb (grid0.coords t) h))).squeeze S_ squeezes_S1x1_S_
      = cellArr (Ring.sl 2 (t.val + 1)) 1 := cell_eq _ _ (off4_eq t) _
theorem off6_eq : ∀ t : Fin grid0.N, k0_off6 (grid0.coords t) = ![(Ring.sl 2 (t.val + 1)).val, (2 : Fin 4).val] := by decide +kernel
@[sl_canon] theorem cell_off6 (h : k0_cond2 (grid0.coords t) = 1#1) :
    (cc0_scratch1.slice (Rect.unit (s := S2x4) (k0_off6 (grid0.coords t)) S1x1.size (k0_off6_inb (grid0.coords t) h))).squeeze S_ squeezes_S1x1_S_
      = cellArr (Ring.sl 2 (t.val + 1)) 2 := cell_eq _ _ (off6_eq t) _
theorem off8_eq : ∀ t : Fin grid0.N, k0_off8 (grid0.coords t) = ![(Ring.sl 2 (t.val + 1)).val, (3 : Fin 4).val] := by decide +kernel
@[sl_canon] theorem cell_off8 (h : k0_cond2 (grid0.coords t) = 1#1) :
    (cc0_scratch1.slice (Rect.unit (s := S2x4) (k0_off8 (grid0.coords t)) S1x1.size (k0_off8_inb (grid0.coords t) h))).squeeze S_ squeezes_S1x1_S_
      = cellArr (Ring.sl 2 (t.val + 1)) 3 := cell_eq _ _ (off8_eq t) _
theorem off3_0_eq : ∀ t : Fin grid0.N, k0_cond2 (grid0.coords t) = 1#1 → k0_off3 (grid0.coords t) 0#32 = ![0, 4096 * (Ring.bk 4 (t.val + 1)).val + 1024 * (0 : Fin 4).val] := by
  decide +kernel
@[sl_canon] theorem strip_off3_0 (h : k0_cond2 (grid0.coords t) = 1#1) :
    texts.slice (Rect.unit (s := S500x16384) (k0_off3 (grid0.coords t) 0#32) S500x1024.size (k0_off3_inb (grid0.coords t) h 0)) (fun _ => rfl)
      = strip (Ring.bk 4 (t.val + 1)) 0 := strip_eq _ _ (off3_0_eq t h) _
theorem off3_1_eq : ∀ t : Fin grid0.N, k0_cond2 (grid0.coords t) = 1#1 → k0_off3 (grid0.coords t) 1024#32 = ![0, 4096 * (Ring.bk 4 (t.val + 1)).val + 1024 * (1 : Fin 4).val] := by
  decide +kernel
@[sl_canon] theorem strip_off3_1 (h : k0_cond2 (grid0.coords t) = 1#1) :
    texts.slice (Rect.unit (s := S500x16384) (k0_off3 (grid0.coords t) 1024#32) S500x1024.size (k0_off3_inb (grid0.coords t) h 1)) (fun _ => rfl)
      = strip (Ring.bk 4 (t.val + 1)) 1 := strip_eq _ _ (off3_1_eq t h) _
theorem off3_2_eq : ∀ t : Fin grid0.N, k0_cond2 (grid0.coords t) = 1#1 → k0_off3 (grid0.coords t) 2048#32 = ![0, 4096 * (Ring.bk 4 (t.val + 1)).val + 1024 * (2 : Fin 4).val] := by
  decide +kernel
@[sl_canon] theorem strip_off3_2 (h : k0_cond2 (grid0.coords t) = 1#1) :
    texts.slice (Rect.unit (s := S500x16384) (k0_off3 (grid0.coords t) 2048#32) S500x1024.size (k0_off3_inb (grid0.coords t) h 2)) (fun _ => rfl)
      = strip (Ring.bk 4 (t.val + 1)) 2 := strip_eq _ _ (off3_2_eq t h) _
theorem off3_3_eq : ∀ t : Fin grid0.N, k0_cond2 (grid0.coords t) = 1#1 → k0_off3 (grid0.coords t) 3072#32 = ![0, 4096 * (Ring.bk 4 (t.val + 1)).val + 1024 * (3 : Fin 4).val] := by
  decide +kernel
@[sl_canon] theorem strip_off3_3 (h : k0_cond2 (grid0.coords t) = 1#1) :
    texts.slice (Rect.unit (s := S500x16384) (k0_off3 (grid0.coords t) 3072#32) S500x1024.size (k0_off3_inb (grid0.coords t) h 3)) (fun _ => rfl)
      = strip (Ring.bk 4 (t.val + 1)) 3 := strip_eq _ _ (off3_3_eq t h) _

/-! Of the transfers waited for. -/

theorem off11_eq : ∀ t : Fin grid0.N, k0_off11 (grid0.coords t) = ![(Ring.sl 2 (t.val)).val, 0, 1024 * (0 : Fin 4).val] := by decide +kernel
@[sl_canon] theorem part_off11 :
    (xbuf.slice (Rect.unit (s := S2x500x4096) (k0_off11 (grid0.coords t)) S1x500x1024.size (k0_off11_inb (grid0.coords t))) (fun _ => rfl)).squeeze
      S500x1024 squeezes_S1x500x1024_S500x1024 = part (Ring.sl 2 (t.val)) 0 := part_eq _ _ (off11_eq t) _
theorem off14_eq : ∀ t : Fin grid0.N, k0_off14 (grid0.coords t) = ![(Ring.sl 2 (t.val)).val, 0, 1024 * (1 : Fin 4).val] := by decide +kernel
@[sl_canon] theorem part_off14 :
    (xbuf.slice (Rect.unit (s := S2x500x4096) (k0_off14 (grid0.coords t)) S1x500x1024.size (k0_off14_inb (grid0.coords t))) (fun _ => rfl)).squeeze
      S500x1024 squeezes_S1x500x1024_S500x1024 = part (Ring.sl 2 (t.val)) 1 := part_eq _ _ (off14_eq t) _
theorem off16_eq : ∀ t : Fin grid0.N, k0_off16 (grid0.coords t) = ![(Ring.sl 2 (t.val)).val, 0, 1024 * (2 : Fin 4).val] := by decide +kernel
@[sl_canon] theorem part_off16 :
    (xbuf.slice (Rect.unit (s := S2x500x4096) (k0_off16 (grid0.coords t)) S1x500x1024.size (k0_off16_inb (grid0.coords t))) (fun _ => rfl)).squeeze
      S500x1024 squeezes_S1x500x1024_S500x1024 = part (Ring.sl 2 (t.val)) 2 := part_eq _ _ (off16_eq t) _
theorem off18_eq : ∀ t : Fin grid0.N, k0_off18 (grid0.coords t) = ![(Ring.sl 2 (t.val)).val, 0, 1024 * (3 : Fin 4).val] := by decide +kernel
@[sl_canon] theorem part_off18 :
    (xbuf.slice (Rect.unit (s := S2x500x4096) (k0_off18 (grid0.coords t)) S1x500x1024.size (k0_off18_inb (grid0.coords t))) (fun _ => rfl)).squeeze
      S500x1024 squeezes_S1x500x1024_S500x1024 = part (Ring.sl 2 (t.val)) 3 := part_eq _ _ (off18_eq t) _
theorem off10_eq : ∀ t : Fin grid0.N, k0_off10 (grid0.coords t) = ![(Ring.sl 2 (t.val)).val, (0 : Fin 4).val] := by decide +kernel
@[sl_canon] theorem cell_off10 :
    (cc0_scratch1.slice (Rect.unit (s := S2x4) (k0_off10 (grid0.coords t)) S1x1.size (k0_off10_inb (grid0.coords t)))).squeeze S_ squeezes_S1x1_S_
      = cellArr (Ring.sl 2 (t.val)) 0 := cell_eq _ _ (off10_eq t) _
theorem off13_eq : ∀ t : Fin grid0.N, k0_off13 (grid0.coords t) = ![(Ring.sl 2 (t.val)).val, (1 : Fin 4).val] := by decide +kernel
@[sl_canon] theorem cell_off13 :
    (cc0_scratch1.slice (Rect.unit (s := S2x4) (k0_off13 (grid0.coords t)) S1x1.size (k0_off13_inb (grid0.coords t)))).squeeze S_ squeezes_S1x1_S_
      = cellArr (Ring.sl 2 (t.val)) 1 := cell_eq _ _ (off13_eq t) _
theorem off15_eq : ∀ t : Fin grid0.N, k0_off15 (grid0.coords t) = ![(Ring.sl 2 (t.val)).val, (2 : Fin 4).val] := by decide +kernel
@[sl_canon] theorem cell_off15 :
    (cc0_scratch1.slice (Rect.unit (s := S2x4) (k0_off15 (grid0.coords t)) S1x1.size (k0_off15_inb (grid0.coords t)))).squeeze S_ squeezes_S1x1_S_
      = cellArr (Ring.sl 2 (t.val)) 2 := cell_eq _ _ (off15_eq t) _
theorem off17_eq : ∀ t : Fin grid0.N, k0_off17 (grid0.coords t) = ![(Ring.sl 2 (t.val)).val, (3 : Fin 4).val] := by decide +kernel
@[sl_canon] theorem cell_off17 :
    (cc0_scratch1.slice (Rect.unit (s := S2x4) (k0_off17 (grid0.coords t)) S1x1.size (k0_off17_inb (grid0.coords t)))).squeeze S_ squeezes_S1x1_S_
      = cellArr (Ring.sl 2 (t.val)) 3 := cell_eq _ _ (off17_eq t) _
theorem off12_0_eq : ∀ t : Fin grid0.N, k0_off12 (grid0.coords t) 0#32 = ![0, 4096 * (Ring.bk 4 (t.val)).val + 1024 * (0 : Fin 4).val] := by
  decide +kernel
@[sl_canon] theorem strip_off12_0 :
    texts.slice (Rect.unit (s := S500x16384) (k0_off12 (grid0.coords t) 0#32) S500x1024.size (k0_off12_inb (grid0.coords t) 0)) (fun _ => rfl)
      = strip (Ring.bk 4 (t.val)) 0 := strip_eq _ _ (off12_0_eq t) _
theorem off12_1_eq : ∀ t : Fin grid0.N, k0_off12 (grid0.coords t) 1024#32 = ![0, 4096 * (Ring.bk 4 (t.val)).val + 1024 * (1 : Fin 4).val] := by
  decide +kernel
@[sl_canon] theorem strip_off12_1 :
    texts.slice (Rect.unit (s := S500x16384) (k0_off12 (grid0.coords t) 1024#32) S500x1024.size (k0_off12_inb (grid0.coords t) 1)) (fun _ => rfl)
      = strip (Ring.bk 4 (t.val)) 1 := strip_eq _ _ (off12_1_eq t) _
theorem off12_2_eq : ∀ t : Fin grid0.N, k0_off12 (grid0.coords t) 2048#32 = ![0, 4096 * (Ring.bk 4 (t.val)).val + 1024 * (2 : Fin 4).val] := by
  decide +kernel
@[sl_canon] theorem strip_off12_2 :
    texts.slice (Rect.unit (s := S500x16384) (k0_off12 (grid0.coords t) 2048#32) S500x1024.size (k0_off12_inb (grid0.coords t) 2)) (fun _ => rfl)
      = strip (Ring.bk 4 (t.val)) 2 := strip_eq _ _ (off12_2_eq t) _
theorem off12_3_eq : ∀ t : Fin grid0.N, k0_off12 (grid0.coords t) 3072#32 = ![0, 4096 * (Ring.bk 4 (t.val)).val + 1024 * (3 : Fin 4).val] := by
  decide +kernel
@[sl_canon] theorem strip_off12_3 :
    texts.slice (Rect.unit (s := S500x16384) (k0_off12 (grid0.coords t) 3072#32) S500x1024.size (k0_off12_inb (grid0.coords t) 3)) (fun _ => rfl)
      = strip (Ring.bk 4 (t.val)) 3 := strip_eq _ _ (off12_3_eq t) _

/-- The load of the block: slot `t`. -/
theorem off19_eq : ∀ t : Fin grid0.N, k0_off19 (grid0.coords t) = ![(Ring.sl 2 t.val).val, 0, 0] := by decide +kernel
instance (priority := high) closed_off19 : ClosedOff (k0_off19 (grid0.coords t)) := ⟨![(Ring.sl 2 t.val).val, 0, 0], off19_eq t⟩

end Canon

end Cert.KernelIdeal.Body

end
-- ==== Proof.Head.lean ====
/-
  The head of the body at point `t`: the transfers it starts and the wait for the first strip of its own block.
-/
module

public import proofs.«01_k».proof.Proof.Names
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : Buf (Elt F) ((c : Thread nD τ).loc main_call0_v0)) (t : Fin grid0.N)
variable (arg2 : Memref sig .tc .vmem S1x4096 .i32) (harg2 : arg2.IsWhole)
  (arg3 : Memref sig .tc .vmem S500x128 .f32) (harg3 : arg3.IsWhole)
  (arg4 : Memref sig .tc .vmem S1x128 .f32) (harg4 : arg4.IsWhole)
  (arg5 : Memref sig .tc .vmem S64x128 .f32) (harg5 : arg5.IsWhole)
  (arg6 : Memref sig .tc .vmem S1x64 .f32) (harg6 : arg6.IsWhole)
  (arg7 : Memref sig .tc .vmem S64x64 .f32) (harg7 : arg7.IsWhole)
  (arg8 : Memref sig .tc .vmem S1x64 .f32) (harg8 : arg8.IsWhole)
  (arg9 : Memref sig .tc .vmem S2x64 .f32) (harg9 : arg9.IsWhole)
  (arg10 : Memref sig .tc .vmem S1x2 .f32) (harg10 : arg10.IsWhole)
  (arg11 : Memref sig .tc .vmem S2x4096 .f32) (harg11 : arg11.IsWhole)
  (arg12 : Memref sig .tc .vmem S1x4096 .i32) (harg12 : arg12.IsWhole)
  (arg13 : Memref sig .tc .vmem S64x4096 .f32) (harg13 : arg13.IsWhole)
  (arg14 : Memref sig .tc .vmem S64x4096 .f32) (harg14 : arg14.IsWhole)
  (arg15 : Memref sig .tc .vmem S1x1 .f32) (harg15 : arg15.IsWhole)

/-- A free slot, taken apart for the four transfers of block `b`. -/
theorem free_open (s : Fin 2) (b : Fin 4) : free c W s ⊢ (iprop(∃ f, (partPt c s 0 f ∗ partPt c s 1 f ∗ partPt c s 2 f ∗ partPt c s 3 f)
    ∗ (cellPt (F := F) c s 0 ∗ cellPt (F := F) c s 1 ∗ cellPt (F := F) c s 2 ∗ cellPt (F := F) c s 3)
    ∗ (stripPt c W s b 0 ∗ stripPt c W s b 1 ∗ stripPt c W s b 2 ∗ stripPt c W s b 3) ∗ restPt c W s b) : sProp 𝕄) := by
  unfold free
  iintro ⟨⟨%f, Hs⟩, Hc, Hw⟩
  ihave Hw' := (whole_split c W s b).1 $$ Hw
  icases Hw' with ⟨Hw, Hr⟩
  iexists f
  isplitl [Hs]
  · iapply (BIBase.Entails.of_eq (slot_split c s f)); iexact Hs
  isplitl [Hc]; · iexact Hc
  isplitl [Hw]; · iexact Hw
  iexact Hr

/-- The transfers of the first point: block 0's, and those of block 1. -/
theorem head_first (h0 : t.val = 0) (W0 : Waits sig Unit) (K : BitVec 32 → sProp 𝕄) :
    iprop(free c W (Ring.sl 2 t.val) ∗ free c W (Ring.sl 2 (t.val + 1)) ∗ owes (c : Thread nD τ) 0 W0
      ∗ (iprop(arriving c W (Ring.sl 2 t.val) (Ring.bk 4 t.val) ∗ flying c W (Ring.sl 2 (t.val + 1)) (Ring.bk 4 (t.val + 1))
          ∗ ∃ W', owes (c : Thread nD τ) 0 W') -∗ K (BitVec.ofNat 32 (grid0.coords t 0).val)))
      ⊢ wp frame (wpE (defs₀ (F := F)) Variants.none c none) Set.univ
          (k0_part2 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1) K := by
  have hc1 := (first_iff t).2 h0
  have hc2 := (next_iff t).2 (by omega)
  haveI : Fact (k0_cond2 (grid0.coords t) = 1#1) := ⟨hc2⟩
  have hs : (Ring.sl 2 t.val).val = 0 := by rw [h0]; rfl
  have hb : (Ring.bk 4 t.val).val = 0 := by rw [h0]; rfl
  have hcanon_p0 := part_eq (Ring.sl 2 t.val) 0 (off := ![0, 0, 0]) (by rw [hs]; rfl) inb_S2x500x4096_S1x500x1024_0_0_0
  have hcanon_p1 := part_eq (Ring.sl 2 t.val) 1 (off := ![0, 0, 1024]) (by rw [hs]; rfl) inb_S2x500x4096_S1x500x1024_0_0_1024
  have hcanon_p2 := part_eq (Ring.sl 2 t.val) 2 (off := ![0, 0, 2048]) (by rw [hs]; rfl) inb_S2x500x4096_S1x500x1024_0_0_2048
  have hcanon_p3 := part_eq (Ring.sl 2 t.val) 3 (off := ![0, 0, 3072]) (by rw [hs]; rfl) inb_S2x500x4096_S1x500x1024_0_0_3072
  have hcanon_c0 := cell_eq (Ring.sl 2 t.val) 0 (off := ![0, 0]) (by rw [hs]; rfl) inb_S2x4_S1x1_0_0
  have hcanon_c1 := cell_eq (Ring.sl 2 t.val) 1 (off := ![0, 1]) (by rw [hs]; rfl) inb_S2x4_S1x1_0_1
  have hcanon_c2 := cell_eq (Ring.sl 2 t.val) 2 (off := ![0, 2]) (by rw [hs]; rfl) inb_S2x4_S1x1_0_2
  have hcanon_c3 := cell_eq (Ring.sl 2 t.val) 3 (off := ![0, 3]) (by rw [hs]; rfl) inb_S2x4_S1x1_0_3
  have hcanon_s0 := strip_eq (Ring.bk 4 t.val) 0 (off := ![0, 0]) (by rw [hb]; rfl) inb_S500x16384_S500x1024_0_0
  have hcanon_s1 := strip_eq (Ring.bk 4 t.val) 1 (off := ![0, 1024]) (by rw [hb]; rfl) inb_S500x16384_S500x1024_0_1024
  have hcanon_s2 := strip_eq (Ring.bk 4 t.val) 2 (off := ![0, 2048]) (by rw [hb]; rfl) inb_S500x16384_S500x1024_0_2048
  have hcanon_s3 := strip_eq (Ring.bk 4 t.val) 3 (off := ![0, 3072]) (by rw [hb]; rfl) inb_S500x16384_S500x1024_0_3072
  simp only [k0_part2_eq_skeleton]
  iintro ⟨Hs, Hn, HW, Hk⟩
  ihave Hs' := free_open c W (Ring.sl 2 t.val) (Ring.bk 4 t.val) $$ Hs
  ihave Hn' := free_open c W (Ring.sl 2 (t.val + 1)) (Ring.bk 4 (t.val + 1)) $$ Hn
  icases Hs' with ⟨%f, ⟨Hp0, Hp1, Hp2, Hp3⟩, ⟨Hc0, Hc1, Hc2, Hc3⟩, ⟨Ht0, Ht1, Ht2, Ht3⟩, Hr⟩
  icases Hn' with ⟨%g, ⟨Gp0, Gp1, Gp2, Gp3⟩, ⟨Gc0, Gc1, Gc2, Gc3⟩, ⟨Gt0, Gt1, Gt2, Gt3⟩, Gr⟩
  sl_exec (disch := first | sl_exact hc1 | sl_exact hc2)
  sl_step
  iapply Hk
  unfold arriving flying
  isplitl [Hc0 Hp0 Ht0 Hc1 Hc2 Hc3 Hr]
  · iexists f
    isplitl [Hc0 Hp0 Ht0]
    · isplitl [Hp0]; · iexact Hp0
      isplitl [Hc0]; · iexact Hc0
      iexact Ht0
    isplitl [Hc1 Hc2 Hc3]
    · isplitl [Hc1]; · iexact Hc1
      isplitl [Hc2]; · iexact Hc2
      iexact Hc3
    iexact Hr
  isplitl [Gc0 Gc1 Gc2 Gc3 Gr]
  · iexists g
    isplitl [Gc0 Gc1 Gc2 Gc3]
    · isplitl [Gc0]; · iexact Gc0
      isplitl [Gc1]; · iexact Gc1
      isplitl [Gc2]; · iexact Gc2
      iexact Gc3
    iexact Gr
  iexists _; iexact HW

/-- At a later point but the last, its own block is on its way: the transfers of the next block start. -/
theorem head_mid (h1 : ¬ t.val = 0) (h3 : t.val < 3) (W0 : Waits sig Unit) (K : BitVec 32 → sProp 𝕄) :
    iprop(flying c W (Ring.sl 2 t.val) (Ring.bk 4 t.val) ∗ free c W (Ring.sl 2 (t.val + 1)) ∗ owes (c : Thread nD τ) 0 W0
      ∗ (iprop(arriving c W (Ring.sl 2 t.val) (Ring.bk 4 t.val) ∗ flying c W (Ring.sl 2 (t.val + 1)) (Ring.bk 4 (t.val + 1))
          ∗ ∃ W', owes (c : Thread nD τ) 0 W') -∗ K (BitVec.ofNat 32 (grid0.coords t 0).val)))
      ⊢ wp frame (wpE (defs₀ (F := F)) Variants.none c none) Set.univ
          (k0_part2 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1) K := by
  have hc1 := fun h => h1 ((first_iff t).1 h)
  have hc2 := (next_iff t).2 h3
  haveI : Fact (k0_cond2 (grid0.coords t) = 1#1) := ⟨hc2⟩
  simp only [k0_part2_eq_skeleton]
  iintro ⟨Hs, Hn, HW, Hk⟩
  unfold arriving flying
  icases Hs with ⟨%f, ⟨Hc0, Hc1, Hc2, Hc3⟩, Hr⟩
  ihave Hn' := free_open c W (Ring.sl 2 (t.val + 1)) (Ring.bk 4 (t.val + 1)) $$ Hn
  icases Hn' with ⟨%g, ⟨Gp0, Gp1, Gp2, Gp3⟩, ⟨Gc0, Gc1, Gc2, Gc3⟩, ⟨Gt0, Gt1, Gt2, Gt3⟩, Gr⟩
  beta_reduce
  sl_exec (disch := first | sl_exact hc1 | sl_exact hc2)
  sl_step
  iapply Hk
  isplitl [Hc0 Hc0_dst Hc0_src Hc1 Hc2 Hc3 Hr]
  · iexists f
    isplitl [Hc0 Hc0_dst Hc0_src]
    · isplitl [Hc0_dst]; · iexact Hc0_dst
      isplitl [Hc0]; · iexact Hc0
      iexact Hc0_src
    isplitl [Hc1 Hc2 Hc3]
    · isplitl [Hc1]; · iexact Hc1
      isplitl [Hc2]; · iexact Hc2
      iexact Hc3
    iexact Hr
  isplitl [Gc0 Gc1 Gc2 Gc3 Gr]
  · iexists g
    isplitl [Gc0 Gc1 Gc2 Gc3]
    · isplitl [Gc0]; · iexact Gc0
      isplitl [Gc1]; · iexact Gc1
      isplitl [Gc2]; · iexact Gc2
      iexact Gc3
    iexact Gr
  iexists _; iexact HW

/-- At the last point nothing more starts. -/
theorem head_last (h1 : ¬ t.val = 0) (h3 : ¬ t.val < 3) (W0 : Waits sig Unit) (K : BitVec 32 → sProp 𝕄) :
    iprop(flying c W (Ring.sl 2 t.val) (Ring.bk 4 t.val) ∗ owes (c : Thread nD τ) 0 W0
      ∗ (iprop(arriving c W (Ring.sl 2 t.val) (Ring.bk 4 t.val) ∗ ∃ W', owes (c : Thread nD τ) 0 W')
          -∗ K (BitVec.ofNat 32 (grid0.coords t 0).val)))
      ⊢ wp frame (wpE (defs₀ (F := F)) Variants.none c none) Set.univ
          (k0_part2 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1) K := by
  have hc1 := fun h => h1 ((first_iff t).1 h)
  have hc2 := fun h => h3 ((next_iff t).1 h)
  haveI : Fact (¬ k0_cond2 (grid0.coords t) = 1#1) := ⟨hc2⟩
  simp only [k0_part2_eq_skeleton]
  iintro ⟨Hs, HW, Hk⟩
  unfold arriving flying
  icases Hs with ⟨%f, ⟨Hc0, Hc1, Hc2, Hc3⟩, Hr⟩
  beta_reduce
  sl_exec (disch := first | sl_exact hc1 | sl_exact hc2)
  sl_step
  iapply Hk
  isplitr [HW]
  · iexists f
    isplitl [Hc0 Hc0_dst Hc0_src]
    · isplitl [Hc0_dst]; · iexact Hc0_dst
      isplitl [Hc0]; · iexact Hc0
      iexact Hc0_src
    isplitl [Hc1 Hc2 Hc3]
    · isplitl [Hc1]; · iexact Hc1
      isplitl [Hc2]; · iexact Hc2
      iexact Hc3
    iexact Hr
  iexists _; iexact HW

/-- What the head does to the double buffer, at every point. -/
theorem head (W0 : Waits sig Unit) (K : BitVec 32 → sProp 𝕄) :
    iprop(ringAt c W t.val ∗ owes (c : Thread nD τ) 0 W0
      ∗ (iprop(arriving c W (Ring.sl 2 t.val) (Ring.bk 4 t.val) ∗ incoming c W (t.val + 1) ∗ ∃ W', owes (c : Thread nD τ) 0 W')
          -∗ K (BitVec.ofNat 32 (grid0.coords t 0).val)))
      ⊢ wp frame (wpE (defs₀ (F := F)) Variants.none c none) Set.univ
          (k0_part2 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1) K := by
  have ht : t.val < 4 := lt_of_lt_of_eq t.isLt N_0
  unfold ringAt incoming
  by_cases h0 : t.val = 0
  · rw [if_neg (by omega), if_pos (by omega)]
    iintro ⟨⟨Hs, Hn⟩, HW, Hk⟩
    iapply (head_first c W t arg2 harg2 arg3 harg3 arg4 harg4 arg5 harg5 arg6 harg6 arg7 harg7 arg8 harg8 arg9 harg9 arg10 harg10 arg11 harg11 arg12 harg12 arg13 harg13 arg14 harg14 arg15 harg15 h0 W0 K)
    isplitl [Hs]; · iexact Hs
    isplitl [Hn]; · iexact Hn
    isplitl [HW]; · iexact HW
    iexact Hk
  by_cases h3 : t.val < 3
  · rw [if_pos (by omega), if_pos (by omega)]
    iintro ⟨⟨Hs, Hn⟩, HW, Hk⟩
    iapply (head_mid c W t arg2 harg2 arg3 harg3 arg4 harg4 arg5 harg5 arg6 harg6 arg7 harg7 arg8 harg8 arg9 harg9 arg10 harg10 arg11 harg11 arg12 harg12 arg13 harg13 arg14 harg14 arg15 harg15 h0 h3 W0 K)
    isplitl [Hs]; · iexact Hs
    isplitl [Hn]; · iexact Hn
    isplitl [HW]; · iexact HW
    iexact Hk
  · rw [if_pos (by omega), if_neg (by omega)]
    iintro ⟨⟨Hs, Hn⟩, HW, Hk⟩
    iapply (head_last c W t arg2 harg2 arg3 harg3 arg4 harg4 arg5 harg5 arg6 harg6 arg7 harg7 arg8 harg8 arg9 harg9 arg10 harg10 arg11 harg11 arg12 harg12 arg13 harg13 arg14 harg14 arg15 harg15 h0 h3 W0 K)
    isplitl [Hs]; · iexact Hs
    isplitl [HW]; · iexact HW
    iintro ⟨Ha, Hw⟩
    iapply Hk
    isplitl [Ha]; · iexact Ha
    isplitl [Hn]; · iexact Hn
    iexact Hw

end Cert.KernelIdeal.Body

end
-- ==== Proof.Tail.lean ====
/-
  The rest of the body at point `t`: the waits for the other three strips of its block, the products, and the stores
  into the outputs' staging buffers.
-/
module

public import proofs.«01_k».proof.Proof.Names
public import proofs.«01_k».proof.Proof.Gen.KernelIdeal.Skeleton
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : Buf (Elt F) ((c : Thread nD τ).loc main_call0_v0)) (t : Fin grid0.N)
variable (arg2 : Memref sig .tc .vmem S1x4096 .i32) (harg2 : arg2.IsWhole)
  (arg3 : Memref sig .tc .vmem S500x128 .f32) (harg3 : arg3.IsWhole)
  (arg4 : Memref sig .tc .vmem S1x128 .f32) (harg4 : arg4.IsWhole)
  (arg5 : Memref sig .tc .vmem S64x128 .f32) (harg5 : arg5.IsWhole)
  (arg6 : Memref sig .tc .vmem S1x64 .f32) (harg6 : arg6.IsWhole)
  (arg7 : Memref sig .tc .vmem S64x64 .f32) (harg7 : arg7.IsWhole)
  (arg8 : Memref sig .tc .vmem S1x64 .f32) (harg8 : arg8.IsWhole)
  (arg9 : Memref sig .tc .vmem S2x64 .f32) (harg9 : arg9.IsWhole)
  (arg10 : Memref sig .tc .vmem S1x2 .f32) (harg10 : arg10.IsWhole)
  (arg11 : Memref sig .tc .vmem S2x4096 .f32) (harg11 : arg11.IsWhole)
  (arg12 : Memref sig .tc .vmem S1x4096 .i32) (harg12 : arg12.IsWhole)
  (arg13 : Memref sig .tc .vmem S64x4096 .f32) (harg13 : arg13.IsWhole)
  (arg14 : Memref sig .tc .vmem S64x4096 .f32) (harg14 : arg14.IsWhole)
  (arg15 : Memref sig .tc .vmem S1x1 .f32) (harg15 : arg15.IsWhole)

/-- Block `b` of the operand as the vector a load of its slot reads. -/
def blockVec (b : Fin 4) : Vec F S1x500x4096 .f32 := fun x =>
  W (ValueIdx.ix2 (n0 := 500) (n1 := 16384) ⟨(x 1).val, (x 1).isLt⟩
    ⟨4096 * b.val + (x 2).val, by have : (x 2).val < 4096 := (x 2).isLt; omega⟩)

omit [FloatOps F] in
/-- A load of the whole of a two-dimensional buffer that holds `X` reads `X`. -/
theorem load_whole {n0 n1 : ℕ} {e : EltTy} {M : Memref sig .tc .vmem ⟨2, ![n0, n1]⟩ e} (h : M.IsWhole)
    (X : Vec F ⟨2, ![n0, n1]⟩ e) (inb) :
    View.readAt (Elt F) M.view (Rect.unit (s := ⟨2, ![n0, n1]⟩) ![0, 0] (Shape.mk 2 ![n0, n1]).size inb).toLoadRect (h.unread X) = X := by
  have hz : (![0, 0] : Fin 2 → ℕ) = fun _ => 0 := funext fun a => by fin_cases a <;> rfl
  rw [View.readAt_eq_ld, h.read_unread]
  exact View.ld_unit_zero hz inb X

theorem mem_whole {S : Shape} {off : Fin S.rank → ℕ} (h : off = fun _ => 0) (inb) (y : S.Idx) : y ∈ (Rect.unit off S.size inb).set := by
  subst h
  show y ∈ (Rect.whole S).set
  rw [Rect.set_whole]
  exact Finset.mem_univ y

theorem stored_at_zero {S : Shape} {e : EltTy} (v : View sig .tc .vmem S e) {off : Fin S.rank → ℕ} (hz : off = fun _ => 0) (inb)
    (f : v.ty.Contents (Elt F)) (X : Vec F S e) (L : List (View.Piece (Elt F) S e)) :
    v.read (Elt F) (v.writes (Elt F) f ((⟨Rect.unit off S.size inb, X⟩ : View.Piece (Elt F) S e) :: L)) = X := by
  have hc : ∀ y, ∃ p ∈ (⟨Rect.unit off S.size inb, X⟩ : View.Piece (Elt F) S e) :: L, y ∈ p.1.set :=
    fun y => ⟨_, List.mem_cons_self, mem_whole hz inb y⟩
  exact (View.read_writes_eq_canon v f _ hc).trans (View.canon_cons_unit_zero hz inb X L)

section Whole
variable {n0 n1 : ℕ} {e : EltTy} {M : Memref sig .tc .vmem ⟨2, ![n0, n1]⟩ e} (h : M.IsWhole)

/-- A store of the whole of a two-dimensional buffer leaves what it stored. -/
theorem stored_whole (f : M.view.ty.Contents (Elt F)) (X : Vec F ⟨2, ![n0, n1]⟩ e) (inb) (L : List (View.Piece (Elt F) ⟨2, ![n0, n1]⟩ e)) :
    M.view.read (Elt F) (M.view.writes (Elt F) f (⟨Rect.unit (s := ⟨2, ![n0, n1]⟩) ![0, 0] (Shape.mk 2 ![n0, n1]).size inb, X⟩ :: L)) = X := by
  have hz : (![0, 0] : Fin 2 → ℕ) = fun _ => 0 := funext fun a => by fin_cases a <;> rfl
  exact stored_at_zero M.view hz inb f X L

omit [FloatOps F] in
/-- Owning a whole buffer, at its one contents; owning it at some contents; and back, untouched or stored to. -/
theorem owns_open (q : PosShare TreeShare) (X : Vec F ⟨2, ![n0, n1]⟩ e) :
    owns (c : Thread nD τ) M q X ⊢ (M.view.loc (c : Thread nD τ) ↦[M.view.set]{q} h.unread X : sProp 𝕄) := by
  unfold owns
  iintro ⟨%f, %hf, H⟩
  obtain rfl := h.eq_unread hf
  iexact H

omit [FloatOps F] in
theorem owns_any : (iprop(∃ d, owns (c : Thread nD τ) M fullShare d) : sProp 𝕄)
    ⊢ iprop(∃ f, M.view.loc (c : Thread nD τ) ↦[M.view.set]{fullShare} f) := by
  unfold owns
  iintro ⟨%d, %f, -, H⟩
  iexists f; iexact H

omit [FloatOps F] in
theorem owns_back (q : PosShare TreeShare) (X : Vec F ⟨2, ![n0, n1]⟩ e) :
    (M.view.loc (c : Thread nD τ) ↦[M.view.set]{q} h.unread X : sProp 𝕄) ⊢ owns (c : Thread nD τ) M q X := by
  unfold owns
  iintro H
  iexists _; isplitr; · ipureintro; exact h.read_unread X
  iexact H

theorem owns_stored (f : M.view.ty.Contents (Elt F)) (X : Vec F ⟨2, ![n0, n1]⟩ e) (inb) (L : List (View.Piece (Elt F) ⟨2, ![n0, n1]⟩ e)) :
    (M.view.loc (c : Thread nD τ) ↦[M.view.set]{fullShare}
        (M.view.writes (Elt F) f (⟨Rect.unit (s := ⟨2, ![n0, n1]⟩) ![0, 0] (Shape.mk 2 ![n0, n1]).size inb, X⟩ :: L)) : sProp 𝕄)
      ⊢ owns (c : Thread nD τ) M fullShare X := by
  unfold owns
  iintro H
  iexists _; isplitr; · ipureintro; exact stored_whole f X inb L
  iexact H

end Whole

omit [FloatOps F] in
/-- The load of slot `s` when block `b` lies in it. -/
theorem load_block (s : Fin 2) (b : Fin 4) {off : Fin 3 → ℕ} (hoff : off = ![s.val, 0, 0]) (inb) :
    View.readAt (Elt F) xbuf.view (Rect.unit (s := S2x500x4096) off S1x500x4096.size inb).toLoadRect (fill c W b) = blockVec c W b := by
  subst hoff
  funext x
  refine congrArg W ?_
  congr 1
  · refine Fin.ext ?_
    show 0 + 1 * (x 1).val = (x 1).val
    omega
  · refine Fin.ext ?_
    show 4096 * b.val + (0 + 1 * (x 2).val) = 4096 * b.val + (x 2).val
    omega

set_option maxHeartbeats 1000000 in
/-- The waits for the last three strips, and the first product. -/
theorem tail3 (a : BitVec 32) (x1 : Vec F S500x128 .f32) (x2 : Vec F S1x128 .f32) (W0 : Waits sig Unit) (K : FVec F S128x4096 .f32 → sProp 𝕄) :
    iprop(arriving c W (Ring.sl 2 t.val) (Ring.bk 4 t.val) ∗ owns (c : Thread nD τ) arg3 fullShare x1 ∗ owns (c : Thread nD τ) arg4 fullShare x2
      ∗ owes (c : Thread nD τ) 0 W0
      ∗ (iprop(free c W (Ring.sl 2 t.val) ∗ owns (c : Thread nD τ) arg3 fullShare x1 ∗ owns (c : Thread nD τ) arg4 fullShare x2
          ∗ ∃ W', owes (c : Thread nD τ) 0 W') -∗ K (k0_pay1 (blockVec c W (Ring.bk 4 t.val)) x1 x2)))
      ⊢ wp frame (wpE (defs₀ (F := F)) Variants.none c none) Set.univ
          (k0_part3 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1 a) K := by
  simp only [k0_part3_eq_skeleton]
  unfold arriving
  iintro ⟨⟨%f, ⟨Hp0, Hc0, Ht0⟩, ⟨Hc1, Hc2, Hc3⟩, Hr⟩, G3, G4, HW, Hk⟩
  ihave H3 := owns_open c harg3 fullShare x1 $$ G3
  ihave H4 := owns_open c harg4 fullShare x2 $$ G4
  sl_exec
  ihave Hs := (BIBase.Entails.of_eq (slot_landed c W (Ring.sl 2 t.val) (Ring.bk 4 t.val) f)) $$ [Hp0 Hc1_dst Hc2_dst Hc3_dst]
  · isplitl [Hp0]; · iexact Hp0
    isplitl [Hc1_dst]; · iexact Hc1_dst
    isplitl [Hc2_dst]; · iexact Hc2_dst
    iexact Hc3_dst
  ihave Hw := (whole_split c W (Ring.sl 2 t.val) (Ring.bk 4 t.val)).2 $$ [Ht0 Hc1_src Hc2_src Hc3_src Hr]
  · isplitr [Hr]
    · isplitl [Ht0]; · iexact Ht0
      isplitl [Hc1_src]; · iexact Hc1_src
      isplitl [Hc2_src]; · iexact Hc2_src
      iexact Hc3_src
    iexact Hr
  sl_exec
  unfold tail3.sl.v58 tail3.sl.v60
  rw [load_block c W _ _ (off19_eq t), load_whole harg3, load_whole harg4]
  sl_step
  iapply Hk
  isplitl [Hs Hw Hc0 Hc1 Hc2 Hc3]
  · unfold free
    isplitl [Hs]; · iexists _; iexact Hs
    isplitr [Hw]
    · isplitl [Hc0]; · iexact Hc0
      isplitl [Hc1]; · iexact Hc1
      isplitl [Hc2]; · iexact Hc2
      iexact Hc3
    iexact Hw
  isplitl [H3]; · iapply (owns_back c harg3 fullShare x1); iexact H3
  isplitl [H4]; · iapply (owns_back c harg4 fullShare x2); iexact H4
  iexists _; iexact HW

set_option maxHeartbeats 1000000 in
/-- The projection, stored twice, and the two rows of the classifier. -/
theorem tail4 (v64 : FVec F S128x4096 .f32) (x3 : Vec F S64x128 .f32) (x4 : Vec F S1x64 .f32) (x5 : Vec F S64x64 .f32)
    (x6 : Vec F S1x64 .f32) (x7 : Vec F S2x64 .f32) (x8 : Vec F S1x2 .f32) (K : FVec F S2x4096 .f32 → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
      ∗ (∃ d, owns (c : Thread nD τ) arg13 fullShare d) ∗ (∃ d, owns (c : Thread nD τ) arg14 fullShare d)
      ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
          ∗ owns (c : Thread nD τ) arg13 fullShare (k0_pay2 v64 x3 x4) ∗ owns (c : Thread nD τ) arg14 fullShare (k0_pay2 v64 x3 x4)) -∗ K (k0_pay3 v64 x3 x4 x5 x6 x7 x8)))
      ⊢ wp frame (wpE (defs₀ (F := F)) Variants.none c none) Set.univ
          (k0_part4 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1 v64) K := by
  simp only [k0_part4_eq_skeleton]
  iintro ⟨G5, G6, G7, G8, G9, G10, G13, G14, Hk⟩
  ihave H5 := owns_open c harg5 fullShare x3 $$ G5
  ihave H6 := owns_open c harg6 fullShare x4 $$ G6
  ihave H7 := owns_open c harg7 fullShare x5 $$ G7
  ihave H8 := owns_open c harg8 fullShare x6 $$ G8
  ihave H9 := owns_open c harg9 fullShare x7 $$ G9
  ihave H10 := owns_open c harg10 fullShare x8 $$ G10
  ihave G13' := owns_any c $$ G13
  ihave G14' := owns_any c $$ G14
  icases G13' with ⟨%f13, H13⟩
  icases G14' with ⟨%f14, H14⟩
  sl_exec
  sl_unfold_words
  rw [load_whole harg5, load_whole harg6, load_whole harg7, load_whole harg8, load_whole harg9, load_whole harg10]
  sl_step
  iapply Hk
  isplitl [H5]; · iapply (owns_back c harg5 fullShare x3); iexact H5
  isplitl [H6]; · iapply (owns_back c harg6 fullShare x4); iexact H6
  isplitl [H7]; · iapply (owns_back c harg7 fullShare x5); iexact H7
  isplitl [H8]; · iapply (owns_back c harg8 fullShare x6); iexact H8
  isplitl [H9]; · iapply (owns_back c harg9 fullShare x7); iexact H9
  isplitl [H10]; · iapply (owns_back c harg10 fullShare x8); iexact H10
  isplitl [H13]; · iapply (owns_stored c f13 _ inb_S64x4096_S64x4096_0_0 []); iexact H13
  iapply (owns_stored c f14 _ inb_S64x4096_S64x4096_0_0 []); iexact H14

set_option maxHeartbeats 1000000 in
/-- The two stores of the classes and the loss so far. -/
theorem tail5 (v99 : FVec F S2x4096 .f32) (x0 : Vec F S1x4096 .i32) (d : Vec F S1x1 .f32) (K : PUnit → sProp 𝕄) :
    iprop(owns (c : Thread nD τ) arg2 fullShare x0 ∗ (∃ d, owns (c : Thread nD τ) arg11 fullShare d) ∗ (∃ d, owns (c : Thread nD τ) arg12 fullShare d) ∗ owns (c : Thread nD τ) arg15 fullShare d
      ∗ (iprop(owns (c : Thread nD τ) arg2 fullShare x0 ∗ owns (c : Thread nD τ) arg11 fullShare (k0_pay10 v99) ∗ owns (c : Thread nD τ) arg12 fullShare (k0_pay11 v99)
          ∗ owns (c : Thread nD τ) arg15 fullShare (k0_pay13 v99 x0 (if t.val = 0 then k0_pay12 else d))) -∗ K ⟨⟩))
      ⊢ wp frame (wpE (defs₀ (F := F)) Variants.none c none) Set.univ
          (k0_part5 (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1 (BitVec.ofNat 32 (grid0.coords t 0).val) v99) K := by
  simp only [k0_part5_eq_skeleton]
  iintro ⟨G2, G11, G12, G15, Hk⟩
  ihave H2 := owns_open c harg2 fullShare x0 $$ G2
  ihave H15 := owns_open c harg15 fullShare d $$ G15
  ihave G11' := owns_any c $$ G11
  ihave G12' := owns_any c $$ G12
  icases G11' with ⟨%f11, H11⟩
  icases G12' with ⟨%f12, H12⟩
  have hz : (![0, 0] : Fin 2 → ℕ) = fun _ => 0 := funext fun a => by fin_cases a <;> rfl
  by_cases h0 : t.val = 0
  · have hc1 := (first_iff t).2 h0
    rw [if_pos h0]
    sl_exec (disch := sl_exact hc1)
    sl_unfold_words
    rw [View.readCov_unit_zero (S := S1x1) arg15.view hz inb_S1x1_S1x1_0_0]
    rw [load_whole harg2]
    sl_step
    iapply Hk
    isplitl [H2]; · iapply (owns_back c harg2 fullShare x0); iexact H2
    isplitl [H11]; · iapply (owns_stored c f11 _ inb_S2x4096_S2x4096_0_0 []); iexact H11
    isplitl [H12]; · iapply (owns_stored c f12 _ inb_S1x4096_S1x4096_0_0 []); iexact H12
    iapply (owns_stored c _ _ inb_S1x1_S1x1_0_0 [_]); iexact H15
  · have hc1 := fun h => h0 ((first_iff t).1 h)
    rw [if_neg h0]
    sl_exec (disch := sl_exact hc1)
    sl_unfold_words
    rw [load_whole harg2, load_whole harg15]
    sl_step
    iapply Hk
    isplitl [H2]; · iapply (owns_back c harg2 fullShare x0); iexact H2
    isplitl [H11]; · iapply (owns_stored c f11 _ inb_S2x4096_S2x4096_0_0 []); iexact H11
    isplitl [H12]; · iapply (owns_stored c f12 _ inb_S1x4096_S1x4096_0_0 []); iexact H12
    iapply (owns_stored c _ _ inb_S1x1_S1x1_0_0 []); iexact H15

end Cert.KernelIdeal.Body

end
-- ==== Proof.Body.lean ====
/-
  The whole body at point `t`, from its parts: what it leaves in the outputs' staging buffers, and the double buffer
  one step on.
-/
module

public import proofs.«01_k».proof.Proof.Head
public import proofs.«01_k».proof.Proof.Tail

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (W : Buf (Elt F) ((c : Thread nD τ).loc main_call0_v0)) (t : Fin grid0.N)
variable (arg2 : Memref sig .tc .vmem S1x4096 .i32) (harg2 : arg2.IsWhole)
  (arg3 : Memref sig .tc .vmem S500x128 .f32) (harg3 : arg3.IsWhole)
  (arg4 : Memref sig .tc .vmem S1x128 .f32) (harg4 : arg4.IsWhole)
  (arg5 : Memref sig .tc .vmem S64x128 .f32) (harg5 : arg5.IsWhole)
  (arg6 : Memref sig .tc .vmem S1x64 .f32) (harg6 : arg6.IsWhole)
  (arg7 : Memref sig .tc .vmem S64x64 .f32) (harg7 : arg7.IsWhole)
  (arg8 : Memref sig .tc .vmem S1x64 .f32) (harg8 : arg8.IsWhole)
  (arg9 : Memref sig .tc .vmem S2x64 .f32) (harg9 : arg9.IsWhole)
  (arg10 : Memref sig .tc .vmem S1x2 .f32) (harg10 : arg10.IsWhole)
  (arg11 : Memref sig .tc .vmem S2x4096 .f32) (harg11 : arg11.IsWhole)
  (arg12 : Memref sig .tc .vmem S1x4096 .i32) (harg12 : arg12.IsWhole)
  (arg13 : Memref sig .tc .vmem S64x4096 .f32) (harg13 : arg13.IsWhole)
  (arg14 : Memref sig .tc .vmem S64x4096 .f32) (harg14 : arg14.IsWhole)
  (arg15 : Memref sig .tc .vmem S1x1 .f32) (harg15 : arg15.IsWhole)

omit [FloatOps F] in
/-- After the body the slot just read is the one the next step fills. -/
theorem free_next (k : ℕ) : free c W (Ring.sl 2 k) = free c W (Ring.sl 2 (k + 1 + 1)) := by
  have h : Ring.sl 2 k = Ring.sl 2 (k + 1 + 1) := Fin.ext (by simp only [Ring.sl, Fin.ofNat]; omega)
  rw [h]

section Values
variable (x0 : Vec F S1x4096 .i32) (x1 : Vec F S500x128 .f32) (x2 : Vec F S1x128 .f32) (x3 : Vec F S64x128 .f32) (x4 : Vec F S1x64 .f32) (x5 : Vec F S64x64 .f32) (x6 : Vec F S1x64 .f32) (x7 : Vec F S2x64 .f32) (x8 : Vec F S1x2 .f32)

/-- The hidden layer on the block of point `t`, the projection, and the two rows of the classifier. -/
def hidden : FVec F S128x4096 .f32 := k0_pay1 (blockVec c W (Ring.bk 4 t.val)) x1 x2
def proj : FVec F S64x4096 .f32 := k0_pay2 (hidden c W t x1 x2) x3 x4
def rows : FVec F S2x4096 .f32 := k0_pay3 (hidden c W t x1 x2) x3 x4 x5 x6 x7 x8

set_option maxHeartbeats 1000000 in
theorem body (d : Vec F S1x1 .f32) (W0 : Waits sig Unit) (K : PUnit → sProp 𝕄) :
    iprop(ringAt c W t.val ∗ owes (c : Thread nD τ) 0 W0 ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)
      ∗ ((∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) ∗ owns (c : Thread nD τ) arg15 fullShare d
      ∗ (iprop(ringAt c W (t.val + 1) ∗ (∃ W', owes (c : Thread nD τ) 0 W') ∗ (owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)
          ∗ (owns (c : Thread nD τ) arg11 fullShare (k0_pay10 (rows c W t x1 x2 x3 x4 x5 x6 x7 x8)) ∗ owns (c : Thread nD τ) arg12 fullShare (k0_pay11 (rows c W t x1 x2 x3 x4 x5 x6 x7 x8))
            ∗ owns (c : Thread nD τ) arg13 fullShare (proj c W t x1 x2 x3 x4) ∗ owns (c : Thread nD τ) arg14 fullShare (proj c W t x1 x2 x3 x4))
          ∗ owns (c : Thread nD τ) arg15 fullShare (k0_pay13 (rows c W t x1 x2 x3 x4 x5 x6 x7 x8) x0 (if t.val = 0 then k0_pay12 else d))) -∗ K ⟨⟩))
      ⊢ wp frame (wpE (defs₀ (F := F)) Variants.none c none) Set.univ
          (cc0__fused_kernel (grid0.coords t) texts (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 xbuf (Memref.isWhole_whole _) cc0_scratch1) K := by
  rw [cc0__fused_kernel_eq_skeleton]; unfold cc0__fused_kernel_skel
  rw [wp_bind]
  iintro ⟨HR, HW, ⟨H2, H3, H4, H5, H6, H7, H8, H9, H10⟩, ⟨H11, H12, H13, H14⟩, H15, Hk⟩
  iapply (head c W t arg2 harg2 arg3 harg3 arg4 harg4 arg5 harg5 arg6 harg6 arg7 harg7 arg8 harg8 arg9 harg9 arg10 harg10 arg11 harg11 arg12 harg12 arg13 harg13 arg14 harg14 arg15 harg15 W0 _)
  isplitl [HR]; · iexact HR
  isplitl [HW]; · iexact HW
  iintro ⟨Ha, Hi, ⟨%W1, HW⟩⟩
  rw [wp_bind]
  iapply (tail3 c W t arg2 harg2 arg3 harg3 arg4 harg4 arg5 harg5 arg6 harg6 arg7 harg7 arg8 harg8 arg9 harg9 arg10 harg10 arg11 harg11 arg12 harg12 arg13 harg13 arg14 harg14 arg15 harg15 _ x1 x2 W1 _)
  isplitl [Ha]; · iexact Ha
  isplitl [H3]; · iexact H3
  isplitl [H4]; · iexact H4
  isplitl [HW]; · iexact HW
  iintro ⟨Hf, H3, H4, ⟨%W2, HW⟩⟩
  rw [wp_bind]
  iapply (tail4 c t arg2 harg2 arg3 harg3 arg4 harg4 arg5 harg5 arg6 harg6 arg7 harg7 arg8 harg8 arg9 harg9 arg10 harg10 arg11 harg11 arg12 harg12 arg13 harg13 arg14 harg14 arg15 harg15 _ x3 x4 x5 x6 x7 x8 _)
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  iintro ⟨H5, H6, H7, H8, H9, H10, H13, H14⟩
  rw [wp_bind]
  iapply (tail5 c t arg2 harg2 arg3 harg3 arg4 harg4 arg5 harg5 arg6 harg6 arg7 harg7 arg8 harg8 arg9 harg9 arg10 harg10 arg11 harg11 arg12 harg12 arg13 harg13 arg14 harg14 arg15 harg15 _ x0 d _)
  isplitl [H2]; · iexact H2
  isplitl [H11]; · iexact H11
  isplitl [H12]; · iexact H12
  isplitl [H15]; · iexact H15
  iintro ⟨H2, H11, H12, H15⟩
  sl_step
  iapply Hk
  isplitl [Hi Hf]
  · unfold ringAt
    isplitl [Hi]; · iexact Hi
    iapply (BIBase.Entails.of_eq (free_next c W t.val)); iexact Hf
  isplitl [HW]; · iexists _; iexact HW
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iexact H11
    isplitl [H12]; · iexact H12
    isplitl [H13]; · iexact H13
    iexact H14
  iexact H15
end Values

end Cert.KernelIdeal.Body

end
-- ==== Proof.Launch.lean ====
/-
  The launch: the body at every point of the grid against the windows' blocks, the double buffer handed in and out,
  the run of the whole program, and its frame.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's own resources -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The eight cells of the transfers. -/
abbrev osem0 : Fin 8 → SemLoc sig := fun j =>
  (![SemLoc.dma 19, SemLoc.dma 20, SemLoc.dma 21, SemLoc.dma 22, SemLoc.dma 23, SemLoc.dma 24, SemLoc.dma 25, SemLoc.dma 26] : Fin 8 → SemLoc sig) j
theorem ownSemFacts0 : Pipeline.OwnSemFacts spec0 osem0 := by decide
theorem cell_num : ∀ (s : Fin 2) (j : Fin 4), osem0 ⟨4 * s.val + j.val, by omega⟩ = cell s j := by decide

omit [FloatOps F] in
theorem ownSems0_eq (c : Dev nD) :
    (Pipeline.ownSems0 (Ix := Unit) (Name := ℕ) (U := Pipeline.UD sig nD τ) (Lvl := ℕ) (Val := Elt F) (τ := τ) osem0 c : sProp 𝕄)
      = iprop(cellPt (F := F) c 0 0 ∗ cellPt (F := F) c 0 1 ∗ cellPt (F := F) c 0 2 ∗ cellPt (F := F) c 0 3
          ∗ cellPt (F := F) c 1 0 ∗ cellPt (F := F) c 1 1 ∗ cellPt (F := F) c 1 2 ∗ cellPt (F := F) c 1 3) := by
  simp only [cellPt, ← cell_num]
  rw [Pipeline.ownSems0_eq_of_list c osem0 [0, 1, 2, 3, 4, 5, 6, 7] (by decide) (by decide)]; rfl

/-- The operand that the transfers read. -/
def H0 : Finset (Ref sig .tc) := {main_call0_v0}
theorem H0_sub : H0 ⊆ Pipeline.restRefs sig spec0 := by decide

theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

theorem hbmPts0_eq (c : Dev nD) :
    (bigSep H0 (fun b => ((c : Thread nD τ).loc b) ↦{fullShare} V m c b) : sProp 𝕄)
      = iprop(((c : Thread nD τ).loc main_call0_v0) ↦{fullShare} V m c main_call0_v0) := by
  rw [BI.bigSep_eq_bigSepL_of_eq [main_call0_v0] (by decide) (by decide)]; rfl

theorem PhiD0_eq (c : Dev nD) :
    (Pipeline.ΦD osem0 spec0 H0 (V m) c : sProp 𝕄)
      = iprop((∃ f : Buf (Elt F) ((c : Thread nD τ).loc cc0_scratch0), ((c : Thread nD τ).loc cc0_scratch0) ↦{fullShare} f) ∗ (∃ r, prngReg c r)
          ∗ (cellPt (F := F) c 0 0 ∗ cellPt (F := F) c 0 1 ∗ cellPt (F := F) c 0 2 ∗ cellPt (F := F) c 0 3
            ∗ cellPt (F := F) c 1 0 ∗ cellPt (F := F) c 1 1 ∗ cellPt (F := F) c 1 2 ∗ cellPt (F := F) c 1 3)
          ∗ ((c : Thread nD τ).loc main_call0_v0) ↦{fullShare} V m c main_call0_v0) := by
  rw [Pipeline.ΦD_eq, scopedRest0_eq, ownSems0_eq, hbmPts0_eq]

section InOut
variable (c : Dev nD) (W : Buf (Elt F) ((c : Thread nD τ).loc main_call0_v0))

omit [FloatOps F] in
theorem halves : ((((c : Thread nD τ).loc main_call0_v0) ↦{fullShare} W) : sProp 𝕄) ⊣⊢ iprop(wholePt c W 0 ∗ wholePt c W 1) :=
  pointsTo_share (PosShare.mem_left_op_right fullShare)

omit [FloatOps F] in
theorem slotPt_eq (s : Fin 2) (f : XBuf (F := F) c) : slotPt c s f = (((c : Thread nD τ).loc cc0_scratch0) ↦[slotSet s]{fullShare} f : sProp 𝕄) :=
  congrArg (fun S => (((c : Thread nD τ).loc cc0_scratch0) ↦[S]{fullShare} f : sProp 𝕄)) (slot_set s)

omit [FloatOps F] in
/-- The launch hands in two free slots, and two free slots are what it takes back. -/
theorem ring_in :
    (iprop((∃ f : Buf (Elt F) ((c : Thread nD τ).loc cc0_scratch0), ((c : Thread nD τ).loc cc0_scratch0) ↦{fullShare} f)
          ∗ (cellPt (F := F) c 0 0 ∗ cellPt (F := F) c 0 1 ∗ cellPt (F := F) c 0 2 ∗ cellPt (F := F) c 0 3
            ∗ cellPt (F := F) c 1 0 ∗ cellPt (F := F) c 1 1 ∗ cellPt (F := F) c 1 2 ∗ cellPt (F := F) c 1 3)
          ∗ ((c : Thread nD τ).loc main_call0_v0) ↦{fullShare} W) : sProp 𝕄)
      ⊢ iprop(free c W 0 ∗ free c W 1) := by
  unfold free
  iintro ⟨HS, ⟨A0, A1, A2, A3, B0, B1, B2, B3⟩, HW⟩
  ihave HS' := (Ring.slots2_split (U := Pipeline.UD sig nD τ) (ℓ := (c : Thread nD τ).loc cc0_scratch0) (q := fullShare) slotSet slot_disjoint slot_cover
    (slotPt c 0) (slotPt c 1) (slotPt_eq c 0) (slotPt_eq c 1)) $$ HS
  ihave HW' := (halves c W).1 $$ HW
  icases HS' with ⟨HS0, HS1⟩
  icases HW' with ⟨HW0, HW1⟩
  isplitl [A0 A1 A2 A3 HS0 HW0]
  · isplitl [HS0]; · iexact HS0
    isplitr [HW0]
    · isplitl [A0]; · iexact A0
      isplitl [A1]; · iexact A1
      isplitl [A2]; · iexact A2
      iexact A3
    iexact HW0
  isplitl [HS1]; · iexact HS1
  isplitr [HW1]
  · isplitl [B0]; · iexact B0
    isplitl [B1]; · iexact B1
    isplitl [B2]; · iexact B2
    iexact B3
  iexact HW1

omit [FloatOps F] in
theorem ring_out : iprop(free c W 0 ∗ free c W 1) ⊢
    (iprop((∃ f : Buf (Elt F) ((c : Thread nD τ).loc cc0_scratch0), ((c : Thread nD τ).loc cc0_scratch0) ↦{fullShare} f)
          ∗ (cellPt (F := F) c 0 0 ∗ cellPt (F := F) c 0 1 ∗ cellPt (F := F) c 0 2 ∗ cellPt (F := F) c 0 3
            ∗ cellPt (F := F) c 1 0 ∗ cellPt (F := F) c 1 1 ∗ cellPt (F := F) c 1 2 ∗ cellPt (F := F) c 1 3)
          ∗ ((c : Thread nD τ).loc main_call0_v0) ↦{fullShare} W) : sProp 𝕄) := by
  unfold free
  iintro ⟨⟨HS0, ⟨A0, A1, A2, A3⟩, HW0⟩, ⟨HS1, ⟨B0, B1, B2, B3⟩, HW1⟩⟩
  isplitl [HS0 HS1]
  · iapply (Ring.slots2_join (U := Pipeline.UD sig nD τ) (ℓ := (c : Thread nD τ).loc cc0_scratch0) (q := fullShare) slotSet slot_disjoint slot_cover
      (slotPt c 0) (slotPt c 1) (slotPt_eq c 0) (slotPt_eq c 1))
    isplitl [HS0]; · iexact HS0
    iexact HS1
  isplitr [HW0 HW1]
  · isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  iapply (halves c W).2
  isplitl [HW0]; · iexact HW0
  iexact HW1

end InOut

/-! ## What the outputs' buffers hold after each point -/

abbrev in0 (c : Dev nD) (t : Fin cfg0.N) : Vec F S1x4096 .i32 := iblk m c 0 t
abbrev in1 (c : Dev nD) (t : Fin cfg0.N) : Vec F S500x128 .f32 := iblk m c 1 t
abbrev in2 (c : Dev nD) (t : Fin cfg0.N) : Vec F S1x128 .f32 := iblk m c 2 t
abbrev in3 (c : Dev nD) (t : Fin cfg0.N) : Vec F S64x128 .f32 := iblk m c 3 t
abbrev in4 (c : Dev nD) (t : Fin cfg0.N) : Vec F S1x64 .f32 := iblk m c 4 t
abbrev in5 (c : Dev nD) (t : Fin cfg0.N) : Vec F S64x64 .f32 := iblk m c 5 t
abbrev in6 (c : Dev nD) (t : Fin cfg0.N) : Vec F S1x64 .f32 := iblk m c 6 t
abbrev in7 (c : Dev nD) (t : Fin cfg0.N) : Vec F S2x64 .f32 := iblk m c 7 t
abbrev in8 (c : Dev nD) (t : Fin cfg0.N) : Vec F S1x2 .f32 := iblk m c 8 t

abbrev opnd (c : Dev nD) : Buf (Elt F) ((c : Thread nD τ).loc main_call0_v0) := V m c main_call0_v0

def projAt (c : Dev nD) (t : Fin cfg0.N) : Vec F S64x4096 .f32 := proj c (opnd m c) t (in1 m c t) (in2 m c t) (in3 m c t) (in4 m c t)
def rowsAt (c : Dev nD) (t : Fin cfg0.N) : FVec F S2x4096 .f32 :=
  rows c (opnd m c) t (in1 m c t) (in2 m c t) (in3 m c t) (in4 m c t) (in5 m c t) (in6 m c t) (in7 m c t) (in8 m c t)
/-- The loss after point `n`: from zero, each point adds its own block's. -/
def lossAt (c : Dev nD) : (n : ℕ) → n < cfg0.N → Vec F S1x1 .f32
  | 0, h => k0_pay13 (rowsAt m c ⟨0, h⟩) (in0 m c ⟨0, h⟩) k0_pay12
  | n + 1, h => k0_pay13 (rowsAt m c ⟨n + 1, h⟩) (in0 m c ⟨n + 1, h⟩) (lossAt c n (Nat.lt_of_succ_lt h))

def PhiR (c : Dev nD) (k : ℕ) : sProp 𝕄 := iprop((∃ r, prngReg c r) ∗ ringAt c (opnd m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay10 (rowsAt m c t)
    | ⟨10, _⟩ => k0_pay11 (rowsAt m c t)
    | ⟨11, _⟩ => projAt m c t
    | ⟨12, _⟩ => projAt m c t
    | ⟨13, _⟩ => lossAt m c t.val t.isLt
  Φ t := PhiR m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiR m c t.val := by
  dsimp only [dats, Fin.val_castSucc]
theorem Phi_succ (c : Dev nD) (t : Fin cfg0.N) : (dats m 0 c).Φ t.succ = PhiR m c (t.val + 1) := by
  dsimp only [dats, Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = k0_pay10 (rowsAt m c t) := by dsimp only [dats]
theorem after10 (c : Dev nD) (t : Fin cfg0.N) : (dats m 0 c).after 10 t = k0_pay11 (rowsAt m c t) := by dsimp only [dats]
theorem after11 (c : Dev nD) (t : Fin cfg0.N) : (dats m 0 c).after 11 t = projAt m c t := by dsimp only [dats]
theorem after12 (c : Dev nD) (t : Fin cfg0.N) : (dats m 0 c).after 12 t = projAt m c t := by dsimp only [dats]
theorem after13 (c : Dev nD) (t : Fin cfg0.N) : (dats m 0 c).after 13 t = lossAt m c t.val t.isLt := by dsimp only [dats]

/-! An input window's buffer holds its block at every point. -/
theorem before0 (c : Dev nD) (t : Fin cfg0.N) (d) : (dats m 0 c).before 0 t d = iblk m c 0 t :=
  (dats m 0 c).before_in_eq_fetched 0 rfl (fun _ => rfl) (fun _ _ _ => rfl) (fun t => by rw [after0]; rfl) t d
theorem before1 (c : Dev nD) (t : Fin cfg0.N) (d) : (dats m 0 c).before 1 t d = iblk m c 1 t :=
  (dats m 0 c).before_in_eq_fetched 1 rfl (fun _ => rfl) (fun _ _ _ => rfl) (fun t => by rw [after1]; rfl) t d
theorem before2 (c : Dev nD) (t : Fin cfg0.N) (d) : (dats m 0 c).before 2 t d = iblk m c 2 t :=
  (dats m 0 c).before_in_eq_fetched 2 rfl (fun _ => rfl) (fun _ _ _ => rfl) (fun t => by rw [after2]; rfl) t d
theorem before3 (c : Dev nD) (t : Fin cfg0.N) (d) : (dats m 0 c).before 3 t d = iblk m c 3 t :=
  (dats m 0 c).before_in_eq_fetched 3 rfl (fun _ => rfl) (fun _ _ _ => rfl) (fun t => by rw [after3]; rfl) t d
theorem before4 (c : Dev nD) (t : Fin cfg0.N) (d) : (dats m 0 c).before 4 t d = iblk m c 4 t :=
  (dats m 0 c).before_in_eq_fetched 4 rfl (fun _ => rfl) (fun _ _ _ => rfl) (fun t => by rw [after4]; rfl) t d
theorem before5 (c : Dev nD) (t : Fin cfg0.N) (d) : (dats m 0 c).before 5 t d = iblk m c 5 t :=
  (dats m 0 c).before_in_eq_fetched 5 rfl (fun _ => rfl) (fun _ _ _ => rfl) (fun t => by rw [after5]; rfl) t d
theorem before6 (c : Dev nD) (t : Fin cfg0.N) (d) : (dats m 0 c).before 6 t d = iblk m c 6 t :=
  (dats m 0 c).before_in_eq_fetched 6 rfl (fun _ => rfl) (fun _ _ _ => rfl) (fun t => by rw [after6]; rfl) t d
theorem before7 (c : Dev nD) (t : Fin cfg0.N) (d) : (dats m 0 c).before 7 t d = iblk m c 7 t :=
  (dats m 0 c).before_in_eq_fetched 7 rfl (fun _ => rfl) (fun _ _ _ => rfl) (fun t => by rw [after7]; rfl) t d
theorem before8 (c : Dev nD) (t : Fin cfg0.N) (d) : (dats m 0 c).before 8 t d = iblk m c 8 t :=
  (dats m 0 c).before_in_eq_fetched 8 rfl (fun _ => rfl) (fun _ _ _ => rfl) (fun t => by rw [after8]; rfl) t d

/-- The loss's buffer, kept from the point before, and this point's addition. -/
theorem loss_step (c : Dev nD) (t : Fin cfg0.N) (d) :
    k0_pay13 (rowsAt m c t) (in0 m c t) (if t.val = 0 then k0_pay12 else (dats m 0 c).before 13 t d) = lossAt m c t.val t.isLt := by
  have hN : t.val < 4 := lt_of_lt_of_eq t.isLt (show cfg0.N = 4 from N_0)
  obtain ⟨n, hn⟩ := t
  cases n with
  | zero => rw [if_pos rfl]; rfl
  | succ n =>
    rw [if_neg (Nat.succ_ne_zero n), Dat.before_out_kept _ 13 rfl ⟨n + 1, hn⟩ (Nat.succ_ne_zero n)
      (Bool.eq_false_iff.mpr fun h => by have := (flush0_13 _).mp h; dsimp only at this hN; omega) (fun _ => rfl) (fun _ _ => rfl)]
    rfl

/-! ## The body at a point -/

abbrev ms0 (t : Fin cfg0.N) : Memref sig .tc .vmem S1x4096 .i32 := win0_0.stage (cfg0.slots t 0)
abbrev ms1 (t : Fin cfg0.N) : Memref sig .tc .vmem S500x128 .f32 := win0_1.stage (cfg0.slots t 1)
abbrev ms2 (t : Fin cfg0.N) : Memref sig .tc .vmem S1x128 .f32 := win0_2.stage (cfg0.slots t 2)
abbrev ms3 (t : Fin cfg0.N) : Memref sig .tc .vmem S64x128 .f32 := win0_3.stage (cfg0.slots t 3)
abbrev ms4 (t : Fin cfg0.N) : Memref sig .tc .vmem S1x64 .f32 := win0_4.stage (cfg0.slots t 4)
abbrev ms5 (t : Fin cfg0.N) : Memref sig .tc .vmem S64x64 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S2x64 .f32 := win0_7.stage (cfg0.slots t 7)
abbrev ms8 (t : Fin cfg0.N) : Memref sig .tc .vmem S1x2 .f32 := win0_8.stage (cfg0.slots t 8)
abbrev ms9 (t : Fin cfg0.N) : Memref sig .tc .vmem S2x4096 .f32 := win0_9.stage (cfg0.slots t 9)
abbrev ms10 (t : Fin cfg0.N) : Memref sig .tc .vmem S1x4096 .i32 := win0_10.stage (cfg0.slots t 10)
abbrev ms11 (t : Fin cfg0.N) : Memref sig .tc .vmem S64x4096 .f32 := win0_11.stage (cfg0.slots t 11)
abbrev ms12 (t : Fin cfg0.N) : Memref sig .tc .vmem S64x4096 .f32 := win0_12.stage (cfg0.slots t 12)
abbrev ms13 (t : Fin cfg0.N) : Memref sig .tc .vmem S1x1 .f32 := win0_13.stage (cfg0.slots t 13)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [after0, after1, after2, after3, after4, after5, after6, after7, after8, after9, after10, after11, after12, after13]
  rw [Phi_castSucc, Phi_succ]
  unfold Dat.owesAt Pipeline.owesWithin
  rw [show (dats m 0 c).owed t.castSucc = 0 from rfl, show (dats m 0 c).owed t.succ = 0 from rfl]
  unfold PhiR
  iintro ⟨⟨Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [← loss_step m c t d13]
  iapply (body c (opnd m c) t (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (iblk m c 0 t) (iblk m c 1 t) (iblk m c 2 t) (iblk m c 3 t) (iblk m c 4 t) (iblk m c 5 t) (iblk m c 6 t) (iblk m c 7 t) (iblk m c 8 t) ((dats m 0 c).before 13 t d13) W _)
  isplitl [HR]; · iexact HR
  isplitl [HW]; · iexact HW
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12]
  · isplitl [H9]; · iexists _; iexact H9
    isplitl [H10]; · iexists _; iexact H10
    isplitl [H11]; · iexists _; iexact H11
    iexists _; iexact H12
  isplitl [H13]; · iexact H13
  iintro ⟨HR, ⟨%W', HW⟩, ⟨H0, H1, H2, H3, H4, H5, H6, H7, H8⟩, ⟨H9, H10, H11, H12⟩, H13⟩
  isplitl [Hg HR]
  · isplitl [Hg]; · iexact Hg
    iexact HR
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem slots_free (c : Dev nD) (k : ℕ) (hk : k = 0 ∨ k = 4) (W : Buf (Elt F) ((c : Thread nD τ).loc main_call0_v0)) :
    ringAt c W k = iprop(free c W 0 ∗ free c W 1) := by
  rcases hk with rfl | rfl
  · unfold ringAt incoming; rw [if_neg (by omega)]; rfl
  · unfold ringAt incoming; rw [if_neg (by omega)]; rfl

theorem hin (c : Dev nD) : Pipeline.ΦD osem0 spec0 H0 (V m) c ⊢ (dats m 0 c).Φ 0 := by
  rw [PhiD0_eq, show (dats m 0 c).Φ 0 = PhiR m c 0 from rfl]
  unfold PhiR; rw [slots_free c 0 (Or.inl rfl)]
  iintro ⟨HS, Hg, HC, HW⟩
  isplitl [Hg]; · iexact Hg
  iapply (ring_in c (opnd m c))
  isplitl [HS]; · iexact HS
  isplitl [HC]; · iexact HC
  iexact HW

theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  rw [show grid0.N = 4 by rw [N_0]]
  unfold PhiR; rw [slots_free c 4 (Or.inr rfl)]
  iintro ⟨Hg, HR⟩
  ihave H := (ring_out c (opnd m c)) $$ HR
  icases H with ⟨HS, HC, HW⟩
  isplitl [HS]; · iexact HS
  isplitl [Hg]; · iexact Hg
  isplitl [HC]; · iexact HC
  iexact HW

/-! ## The run -/

set_option backward.isDefEq.respectTransparency.types false in
set_option maxHeartbeats 800000 in
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m Variants.none)
    (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.KernelIdeal.Body

end
-- ==== Proof.After.lean ====
/- The lines after the launch: which buffers they leave alone, and what each result holds once they have run. -/
module

public import proofs.«01_k».proof.Proof.Launch

@[expose] public section

set_option maxRecDepth 16384

noncomputable section

namespace Cert.KernelIdeal.Body

open Idealize.ShloMosaic Idealize.SL Idealize.SL.Sem Cert.KernelIdeal.Gen
variable {F : FTy → Type} [FloatOps F]
variable (m : (ℓ : Loc nD τ sig) → Buf (Elt F) ℓ) (c : Dev nD)

/-- What buffer `b` holds at the end. -/
abbrev atEnd (b : Ref sig .tc) : Buf (Elt F) ((c.tc : Thread nD τ).loc b) :=
  Pipeline.afterTail₀ cfgs (dats m) 0 (V0 m) [hostOps1] c b

/-- A buffer that is no line's result and no window's array ends as the launch found it. -/
theorem tail_keeps (b : Ref sig .tc)
    (hb : main_v0_0 ≠ b ∧ main_v0_1 ≠ b ∧ main_v0_2 ≠ b ∧ main_call0_v12 ≠ b ∧ main_v0_3 ≠ b ∧ main_v0_4 ≠ b)
    (hw : ∀ w, Pipeline.arrRef spec0 w ≠ b) : atEnd m c b = V m c b := by
  obtain ⟨h0, h1, h2, h3, h4, h5⟩ := hb
  unfold atEnd Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      exact ⟨StableHlo.devRef_ne_of_ne h0.symm, StableHlo.devRef_ne_of_ne h1.symm, StableHlo.devRef_ne_of_ne h2.symm,
        StableHlo.devRef_ne_of_ne h3.symm, StableHlo.devRef_ne_of_ne h4.symm, StableHlo.devRef_ne_of_ne h5.symm⟩)),
    Pipeline.withArrays_of_ne _ c (V0 m c) _ b hw]

/-- What an output window's array holds when the launch has ended. -/
abbrev result (w : Fin cfg0.W) := (dats m 0 c).arrAt w cfg0.N

theorem entered (w : Fin cfg0.W) : Pipeline.withArrays (cfgs 0).spec c (V0 m c) (fun w => (dats m 0 c).arrAt w (cfgs 0).N)
    (Proc.devRef .tc (Pipeline.arrRef spec0 w)) = result m c w :=
  Pipeline.withArrays_arr spec0 (by decide) c _ _ w

theorem end_logits : atEnd m c main_v0_0 = transpose S16384x2 [1, 0] (result m c 9) transposes_S2x16384_S16384x2_1_0 := by
  unfold atEnd Pipeline.afterTail₀
  simp only [List.flatten_cons, List.flatten_nil, List.append_nil]
  after_results
  exact congrArg (fun x => transpose S16384x2 [1, 0] x transposes_S2x16384_S16384x2_1_0) (entered m c 9)

theorem end_preds : atEnd m c main_v0_1 = shapeCast S16384 (result m c 10) shapeCasts_S1x16384_S16384 := by
  unfold atEnd Pipeline.afterTail₀
  simp only [List.flatten_cons, List.flatten_nil, List.append_nil]
  after_results
  exact congrArg (fun x => shapeCast S16384 x shapeCasts_S1x16384_S16384) (entered m c 10)

theorem end_proj : atEnd m c main_v0_2 = transpose S16384x64 [1, 0] (result m c 11) transposes_S64x16384_S16384x64_1_0 := by
  unfold atEnd Pipeline.afterTail₀
  simp only [List.flatten_cons, List.flatten_nil, List.append_nil]
  after_results
  exact congrArg (fun x => transpose S16384x64 [1, 0] x transposes_S64x16384_S16384x64_1_0) (entered m c 11)

theorem end_vectors : atEnd m c main_v0_3 = broadcastInDim S16384x1x64 ![0, 2] bcast_S16384x64_S16384x1x64_0_2
    (transpose S16384x64 [1, 0] (result m c 12) transposes_S64x16384_S16384x64_1_0) := by
  unfold atEnd Pipeline.afterTail₀
  simp only [List.flatten_cons, List.flatten_nil, List.append_nil]
  after_results
  exact congrArg (fun x => broadcastInDim S16384x1x64 ![0, 2] bcast_S16384x64_S16384x1x64_0_2
    (transpose S16384x64 [1, 0] x transposes_S64x16384_S16384x64_1_0)) (entered m c 12)

theorem end_loss : atEnd m c main_v0_4 = shapeCast S_ (result m c 13) shapeCasts_S1x1_S_ := by
  unfold atEnd Pipeline.afterTail₀
  simp only [List.flatten_cons, List.flatten_nil, List.append_nil]
  after_results
  exact congrArg (fun x => shapeCast S_ x shapeCasts_S1x1_S_) (entered m c 13)

omit c in
/-- The run of the whole program: the results, and the arguments as they were. -/
theorem run (g : Dev nD → PrngReg) :
    θ_run (defs (F := F)) (onTc (τ := τ) (main (F := F))) ⟨m, fun _ => 0, g⟩ (fun r => ∀ c : Dev nD,
      (r.2.mem ((c.tc : Thread nD τ).loc main_v0_0) = transpose S16384x2 [1, 0] (result m c 9) transposes_S2x16384_S16384x2_1_0
      ∧ r.2.mem ((c.tc : Thread nD τ).loc main_v0_1) = shapeCast S16384 (result m c 10) shapeCasts_S1x16384_S16384
      ∧ r.2.mem ((c.tc : Thread nD τ).loc main_v0_2) = transpose S16384x64 [1, 0] (result m c 11) transposes_S64x16384_S16384x64_1_0
      ∧ r.2.mem ((c.tc : Thread nD τ).loc main_v0_3) = broadcastInDim S16384x1x64 ![0, 2] bcast_S16384x64_S16384x1x64_0_2
        (transpose S16384x64 [1, 0] (result m c 12) transposes_S64x16384_S16384x64_1_0)
      ∧ r.2.mem ((c.tc : Thread nD τ).loc main_v0_4) = shapeCast S_ (result m c 13) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have tail (b : Ref sig .tc) (hs : b.isScoped = false) (hw : ∀ w, Pipeline.arrRef spec0 w ≠ b) :
        r.2.mem ((c.tc : Thread nD τ).loc b) = atEnd m c b := (h c).2 b (Pipeline.mem_restRefs_of b hs hw)
    have arg (b : Ref sig .tc) (hs : b.isScoped = false) (hw : ∀ w, Pipeline.arrRef spec0 w ≠ b)
        (hb : main_v0_0 ≠ b ∧ main_v0_1 ≠ b ∧ main_v0_2 ≠ b ∧ main_call0_v12 ≠ b ∧ main_v0_3 ≠ b ∧ main_v0_4 ≠ b) (hV : V m c b = m ((c.tc : Thread nD τ).loc b)) :
        r.2.mem ((c.tc : Thread nD τ).loc b) = m ((c.tc : Thread nD τ).loc b) :=
      (tail b hs hw).trans ((tail_keeps m c b hb hw).trans hV)
    exact ⟨⟨(tail main_v0_0 (by decide) (by decide)).trans (end_logits m c),
      (tail main_v0_1 (by decide) (by decide)).trans (end_preds m c),
      (tail main_v0_2 (by decide) (by decide)).trans (end_proj m c),
      (tail main_v0_3 (by decide) (by decide)).trans (end_vectors m c),
      (tail main_v0_4 (by decide) (by decide)).trans (end_loss m c)⟩,
      arg main_arg0 (by decide) (by decide) (by decide) (V_main_arg0 m c),
      arg main_arg1 (by decide) (by decide) (by decide) (V_main_arg1 m c),
      arg main_arg2 (by decide) (by decide) (by decide) (V_main_arg2 m c),
      ((h c).1 1).trans (((dats m 0 c).arrAt_in 1 rfl _).trans ((A_eq m c 1).trans (V_main_arg3 m c))),
      arg main_arg4 (by decide) (by decide) (by decide) (V_main_arg4 m c),
      arg main_arg5 (by decide) (by decide) (by decide) (V_main_arg5 m c),
      arg main_arg6 (by decide) (by decide) (by decide) (V_main_arg6 m c),
      ((h c).1 5).trans (((dats m 0 c).arrAt_in 5 rfl _).trans ((A_eq m c 5).trans (V_main_arg7 m c))),
      arg main_arg8 (by decide) (by decide) (by decide) (V_main_arg8 m c),
      arg main_arg9 (by decide) (by decide) (by decide) (V_main_arg9 m c),
      arg main_arg10 (by decide) (by decide) (by decide) (V_main_arg10 m c)⟩) (run_main m g)

end Cert.KernelIdeal.Body

end
-- ==== Proof.Same.lean ====
/- The program at the two number systems: one text under two names, so what is proved of one holds of the other.
   The frame of the kernel, at any number system, and the same of its twin. -/
module

public import proofs.«01_k».proof.Defs
public import proofs.«01_k».proof.Proof.Gen.Kernel
public import proofs.«01_k».proof.Proof.After

@[expose] public section

set_option maxRecDepth 16384

noncomputable section

namespace Cert.Same

open Idealize.ShloMosaic Idealize.SL Idealize.SL.Sem
variable {F : FTy → Type} [FloatOps F]

theorem table_same : @Eq (Defs Cert.Kernel.nD Cert.Kernel.τ Cert.Kernel.sig (Elt F) Cert.Kernel.Λ₀)
    (Cert.KernelIdeal.defs₀ (F := F)) (Cert.Kernel.defs₀ (F := F)) := by
  unfold Cert.KernelIdeal.defs₀ Cert.Kernel.defs₀
  refine congrArg Defs.onTc ?_
  funext l x
  match l, x with
  | 0, (t, s) => rfl
  | ⟨_ + 1, h⟩, _ => exact absurd h (Nat.not_lt.2 (Nat.le_add_left _ _))

theorem defs_same : @Eq (Defs Cert.Kernel.nD Cert.Kernel.τ Cert.Kernel.sig (Elt F) _) (Cert.KernelIdeal.defs (F := F)) (Cert.Kernel.defs (F := F)) :=
  congrArg (Pipeline.defs (Cert.Kernel.pcfgs (F := F))) table_same

open Cert.KernelIdeal in
/-- The kernel leaves its arguments as launched and its counters at zero. -/
theorem frame_ideal (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and ((θ_run defs _ _).mono (fun _ h c => (h c).2) (Cert.KernelIdeal.Body.run m g)) ((θ_run defs _ _).mono (fun _ h => h.2) (Cert.KernelIdeal.Body.run_quiescent m g))

open Cert.Kernel in
theorem frame_bits (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Eq.mp (congrArg (fun D : Defs nD τ sig (Elt F) _ => θ_run D (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)) defs_same) (frame_ideal (F := F) m g)

end Cert.Same

end
-- ==== Proof.Spec.lean ====
/-
  What the network computes of one sample, as mathematics over the extended reals, and the facts about it that
  hold when every entry is a number.
-/
module

public import Idealize.ShloMosaic.Lib.Pointwise

@[expose] public section

noncomputable section

namespace Cert.Spec

open Idealize.ShloMosaic

/-- What is negative is scaled down. -/
def leaky (x : EReal) : EReal := if 0 ≤ x then x else Ideal.ofBits .f32 0x3C23D70A#32 * x

/-- The weights and biases of the four layers. -/
structure Net where
  W1 : FVec Ideal ⟨2, ![500, 128]⟩ .f32
  b1 : FVec Ideal ⟨1, ![128]⟩ .f32
  W2 : FVec Ideal ⟨2, ![128, 64]⟩ .f32
  b2 : FVec Ideal ⟨1, ![64]⟩ .f32
  W3 : FVec Ideal ⟨2, ![64, 64]⟩ .f32
  b3 : FVec Ideal ⟨1, ![64]⟩ .f32
  W4 : FVec Ideal ⟨2, ![64, 2]⟩ .f32
  b4 : FVec Ideal ⟨1, ![2]⟩ .f32

namespace Net

variable (N : Net) (x : Fin 500 → EReal)

/-- The first layer of a sample `x`. -/
def hid (k : Fin 128) : EReal := leaky (∑ d, x d * (N.W1 (ix2 d k) : EReal) + N.b1 (ix1 k))

/-- Its projection. -/
def prj (q : Fin 64) : EReal := ∑ k, N.hid x k * (N.W2 (ix2 k q) : EReal) + N.b2 (ix1 q)

/-- The third layer, of the projection. -/
def cls (q : Fin 64) : EReal := leaky (∑ p, N.prj x p * (N.W3 (ix2 p q) : EReal) + N.b3 (ix1 q))

/-- The scores of the two classes. -/
def score (n : Fin 2) : EReal := ∑ q, N.cls x q * (N.W4 (ix2 q n) : EReal) + N.b4 (ix1 n)

end Net

/-! ### Of two scores -/

variable (r : Fin 2 → EReal)

/-- A score less the larger one. -/
def shift (n : Fin 2) : EReal := r n - max (r 0) (r 1)

/-- The sum of the exponentials. -/
def total : EReal := Ideal.exp (shift r 0) + Ideal.exp (shift r 1)

/-- The probability of a class. -/
def prob (n : Fin 2) : EReal := Ideal.div (Ideal.exp (shift r n)) (total r)

/-- Its logarithm. -/
def logp (n : Fin 2) : EReal := shift r n - Ideal.log (total r)

/-- The class of the larger score, the first of equals. -/
def best : BitVec 32 := if r 0 < r 1 then 1#32 else 0#32

/-- The class a label names. -/
def named (y : BitVec 32) : Fin 2 := if y = 0#32 then 0 else 1

/-! ### Numbers -/

/-- An extended real that is a number. -/
def IsNum (x : EReal) : Prop := ∃ a : ℝ, x = (a : EReal)

theorem IsNum.add {x y : EReal} : IsNum x → IsNum y → IsNum (x + y)
  | ⟨a, ha⟩, ⟨b, hb⟩ => ⟨a + b, by rw [ha, hb, EReal.coe_add]⟩

theorem IsNum.mul {x y : EReal} : IsNum x → IsNum y → IsNum (x * y)
  | ⟨a, ha⟩, ⟨b, hb⟩ => ⟨a * b, by rw [ha, hb, EReal.coe_mul]⟩

theorem IsNum.sum {ι : Type} (s : Finset ι) {f : ι → EReal} (h : ∀ i, IsNum (f i)) : IsNum (∑ i ∈ s, f i) := by
  classical
  induction s using Finset.induction_on with
  | empty => exact ⟨0, by simp⟩
  | insert a s ha ih => rw [Finset.sum_insert ha]; exact (h a).add ih

theorem isNum_of_abs {x : EReal} (h : max x (-x) < ⊤) : IsNum x := by
  induction x with
  | bot => simp at h
  | top => simp at h
  | coe a => exact ⟨a, rfl⟩

theorem isNum_slope : IsNum (Ideal.ofBits .f32 0x3C23D70A#32) := by
  unfold Ideal.ofBits Ideal.ieee
  dsimp only
  rw [if_neg (by decide), if_neg (by decide)]
  exact ⟨_, rfl⟩

theorem IsNum.leaky {x : EReal} (h : IsNum x) : IsNum (leaky x) := by
  unfold Spec.leaky
  split
  · exact h
  · exact isNum_slope.mul h

/-- Every weight and every bias is a number. -/
structure Net.Num (N : Net) : Prop where
  W1 : ∀ i, IsNum (N.W1 i)
  b1 : ∀ i, IsNum (N.b1 i)
  W2 : ∀ i, IsNum (N.W2 i)
  b2 : ∀ i, IsNum (N.b2 i)
  W3 : ∀ i, IsNum (N.W3 i)
  b3 : ∀ i, IsNum (N.b3 i)
  W4 : ∀ i, IsNum (N.W4 i)
  b4 : ∀ i, IsNum (N.b4 i)

theorem Net.Num.score {N : Net} (h : N.Num) {x : Fin 500 → EReal} (hx : ∀ d, IsNum (x d)) (n : Fin 2) :
    IsNum (N.score x n) := by
  have hid k : IsNum (N.hid x k) := ((IsNum.sum _ fun d => (hx d).mul (h.W1 _)).add (h.b1 _)).leaky
  have prj q : IsNum (N.prj x q) := (IsNum.sum _ fun k => (hid k).mul (h.W2 _)).add (h.b2 _)
  have cls q : IsNum (N.cls x q) := ((IsNum.sum _ fun p => (prj p).mul (h.W3 _)).add (h.b3 _)).leaky
  exact (IsNum.sum _ fun q => (cls q).mul (h.W4 _)).add (h.b4 _)

variable {r}

theorem isNum_shift (h : ∀ n, IsNum (r n)) (n : Fin 2) : IsNum (shift r n) := by
  obtain ⟨a, ha⟩ := h 0
  obtain ⟨b, hb⟩ := h 1
  obtain ⟨c, hc⟩ := h n
  refine ⟨c - max a b, ?_⟩
  rw [shift, ha, hb, hc, EReal.coe_sub, EReal.coe_strictMono.monotone.map_max]

/-- The sum of the exponentials of numbers is a number above zero. -/
theorem total_pos (h : ∀ n, IsNum (r n)) : ∃ s : ℝ, 0 < s ∧ total r = (s : EReal) := by
  obtain ⟨a, ha⟩ := isNum_shift h 0
  obtain ⟨b, hb⟩ := isNum_shift h 1
  refine ⟨Real.exp a + Real.exp b, by positivity, ?_⟩
  rw [total, ha, hb, Ideal.exp_coe, Ideal.exp_coe, EReal.coe_add]

/-- A quotient by the sum is the product with its reciprocal. -/
theorem prob_eq (h : ∀ n, IsNum (r n)) (n : Fin 2) :
    Ideal.exp (shift r n) * Ideal.div 1 (total r) = prob r n := by
  obtain ⟨s, hs, e⟩ := total_pos h
  rw [prob, e, Ideal.div_coe hs.ne', Ideal.div_coe hs.ne', one_mul]

theorem isNum_logp (h : ∀ n, IsNum (r n)) (n : Fin 2) : IsNum (logp r n) := by
  obtain ⟨s, hs, e⟩ := total_pos h
  obtain ⟨a, ha⟩ := isNum_shift h n
  refine ⟨a - Real.log s, ?_⟩
  rw [logp, e, ha, Ideal.log_coe, if_neg (not_le.mpr hs), EReal.coe_sub]

/-! ### The constants -/

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_count : Ideal.ofBits .f32 0x46800000#32 = ((16384 : ℝ) : EReal) := by
  simp [Ideal.ofBits, Ideal.ieee]; rw [← EReal.coe_mul]; norm_num

theorem ofBits_share : Ideal.ofBits .f32 0xB8800000#32 = ((-(1 / 16384) : ℝ) : EReal) := by
  simp [Ideal.ofBits, Ideal.ieee]; rw [← EReal.coe_mul]; norm_num

/-! ### The mean -/

/-- The mean of the terms, negated. -/
def negMean (L : Fin 16384 → EReal) : EReal := -Ideal.div (∑ i, L i) ((16384 : ℝ) : EReal)

/-- The part of the sum that block `b` of 4096 terms is. -/
def part (L : Fin 16384 → EReal) (b : Fin 4) : EReal :=
  ∑ j : Fin 4096, L ⟨4096 * b.val + j.val, by omega⟩

theorem isNum_part {L : Fin 16384 → EReal} (h : ∀ i, IsNum (L i)) (b : Fin 4) : IsNum (part L b) :=
  IsNum.sum _ fun _ => h _

/-- Adding up each block's share of the mean gives the mean. -/
theorem negMean_eq {L : Fin 16384 → EReal} (h : ∀ i, IsNum (L i)) :
    (((0 + part L 0 * Ideal.ofBits .f32 0xB8800000#32) + part L 1 * Ideal.ofBits .f32 0xB8800000#32)
      + part L 2 * Ideal.ofBits .f32 0xB8800000#32) + part L 3 * Ideal.ofBits .f32 0xB8800000#32 = negMean L := by
  have split : ∑ i, L i = ∑ b, part L b := by
    rw [Fin.sum_univ_tiles 4 4096 rfl]
    exact Finset.sum_congr rfl fun b _ => Finset.sum_congr rfl fun j _ => congrArg L (Fin.ext (by simp only; omega))
  rw [negMean, split, Fin.sum_univ_four, Ideal.div_coe (by norm_num), ofBits_share]
  obtain ⟨a, ha⟩ := isNum_part h 0
  obtain ⟨b, hb⟩ := isNum_part h 1
  obtain ⟨c, hc⟩ := isNum_part h 2
  obtain ⟨d, hd⟩ := isNum_part h 3
  rw [ha, hb, hc, hd]
  rw [← EReal.coe_zero]
  simp only [← EReal.coe_add, ← EReal.coe_mul, ← EReal.coe_neg]
  exact congrArg _ (by ring)

end Cert.Spec

end
-- ==== Proof.Column.lean ====
/-
  The kernel's arithmetic read at an index: column `j` of a block is one sample, and what the block's formulas give
  in that column is the mathematics of the sample.
-/
module

public import proofs.«01_k».proof.Proof.Launch
public import proofs.«01_k».proof.Proof.Spec

@[expose] public section

set_option maxRecDepth 16384

noncomputable section

namespace Cert.KernelIdeal.Body

open Idealize.ShloMosaic Cert.Spec
open Cert.KernelIdeal Cert.KernelIdeal.Gen

/-! ### The layers -/

/-- The weights and biases in the form the kernel is handed them: the second and the last weights transposed, the
    biases as single rows. -/
structure Loads (N : Net) (x1 : Vec Ideal S500x128 .f32) (x2 : Vec Ideal S1x128 .f32) (x3 : Vec Ideal S64x128 .f32)
    (x4 : Vec Ideal S1x64 .f32) (x5 : Vec Ideal S64x64 .f32) (x6 : Vec Ideal S1x64 .f32) (x7 : Vec Ideal S2x64 .f32)
    (x8 : Vec Ideal S1x2 .f32) : Prop where
  W1 : ∀ (d : Fin 500) (k : Fin 128), x1 (ix2 d k) = N.W1 (ix2 d k)
  b1 : ∀ k : Fin 128, x2 (ix2 (0 : Fin 1) k) = N.b1 (ix1 k)
  W2 : ∀ (q : Fin 64) (k : Fin 128), x3 (ix2 q k) = N.W2 (ix2 k q)
  b2 : ∀ q : Fin 64, x4 (ix2 (0 : Fin 1) q) = N.b2 (ix1 q)
  W3 : ∀ p q : Fin 64, x5 (ix2 p q) = N.W3 (ix2 p q)
  b3 : ∀ q : Fin 64, x6 (ix2 (0 : Fin 1) q) = N.b3 (ix1 q)
  W4 : ∀ (n : Fin 2) (q : Fin 64), x7 (ix2 n q) = N.W4 (ix2 q n)
  b4 : ∀ n : Fin 2, x8 (ix2 (0 : Fin 1) n) = N.b4 (ix1 n)

section Layers

variable {N : Net} {x1 : Vec Ideal S500x128 .f32} {x2 : Vec Ideal S1x128 .f32} {x3 : Vec Ideal S64x128 .f32}
  {x4 : Vec Ideal S1x64 .f32} {x5 : Vec Ideal S64x64 .f32} {x6 : Vec Ideal S1x64 .f32} {x7 : Vec Ideal S2x64 .f32}
  {x8 : Vec Ideal S1x2 .f32} (h : Loads N x1 x2 x3 x4 x5 x6 x7 x8)
  (v : Vec Ideal S1x500x4096 .f32) (j : Fin 4096)

/-- Column `j` of a block. -/
abbrev col (d : Fin 500) : EReal := v (ix3 (0 : Fin 1) d j)

include h

theorem pre_at (k : Fin 128) :
    k0_pay1 (F := Ideal) v x1 x2 (ix2 k j) = ∑ d, col v j d * (N.W1 (ix2 d k) : EReal) + N.b1 (ix1 k) := by
  pointwise [k0_pay1]
  simp only [h.W1, h.b1, mul_comm]

theorem proj_at (q : Fin 64) : k0_pay2 (F := Ideal) (k0_pay1 v x1 x2) x3 x4 (ix2 q j) = N.prj (col v j) q := by
  pointwise [k0_pay2]
  simp only [pre_at h, h.W2, h.b2, Net.prj, Net.hid, leaky, mul_comm]

theorem rows_at (n : Fin 2) :
    k0_pay3 (F := Ideal) (k0_pay1 v x1 x2) x3 x4 x5 x6 x7 x8 (ix2 n j) = N.score (col v j) n := by
  pointwise [k0_pay3]
  simp only [proj_at h, h.W3, h.b3, h.W4, h.b4, Net.score, Net.cls, leaky, mul_comm]

end Layers

/-! ### Of the two rows of scores -/

section Rows

variable (R : FVec Ideal S2x4096 .f32) (j : Fin 4096)

/-- The two scores in column `j`. -/
abbrev pair (n : Fin 2) : EReal := R (ix2 n j)

theorem top_at : k0_pay6 (F := Ideal) R (ix2 (0 : Fin 1) j) = max (pair R j 0) (pair R j 1) := by
  pointwise [k0_pay6, k0_pay4, k0_pay5]

theorem exp0_at : k0_pay7 (F := Ideal) R (ix2 (0 : Fin 1) j) = Ideal.exp (shift (pair R j) 0) := by
  pointwise [k0_pay7, k0_pay4]
  rw [top_at]
  rfl

theorem exp1_at : k0_pay8 (F := Ideal) R (ix2 (0 : Fin 1) j) = Ideal.exp (shift (pair R j) 1) := by
  pointwise [k0_pay8, k0_pay5]
  rw [top_at]
  rfl

theorem total_at : k0_pay9 (F := Ideal) R (ix2 (0 : Fin 1) j) = total (pair R j) := by
  pointwise [k0_pay9]
  rw [exp0_at, exp1_at]
  rfl

theorem soft_at (n : Fin 2) (h : ∀ n, IsNum (pair R j n)) : k0_pay10 (F := Ideal) R (ix2 n j) = prob (pair R j) n := by
  rw [← prob_eq h]
  pointwise [k0_pay10]
  match n with
  | ⟨0, _⟩ => exact congrArg₂ (fun x y => x * Ideal.div 1 y) (exp0_at R j) (total_at R j)
  | ⟨1, _⟩ => exact congrArg₂ (fun x y => x * Ideal.div 1 y) (exp1_at R j) (total_at R j)

theorem best_at : k0_pay11 (F := Ideal) R (ix2 (0 : Fin 1) j) = best (pair R j) := by
  pointwise [k0_pay11, k0_pay4, k0_pay5]
  unfold best
  by_cases h : pair R j 0 < pair R j 1
  · rw [if_pos h, decide_eq_true h]; rfl
  · rw [if_neg h, decide_eq_false h]; rfl

/-- A choice between the two classes by a label's being 0 is the entry the label names. -/
theorem choose_named (f : Fin 2 → EReal) (y : BitVec 32) :
    Scalar.select (IntOp.cmpi .eq y 0#32) (f 0) (f 1) = f (Spec.named y) := by
  unfold Spec.named
  by_cases h : y = 0#32
  · subst h; rfl
  · rw [if_neg h, show IntOp.cmpi .eq y 0#32 = 0#1 by simp [IntOp.cmpi, beq_eq_false_iff_ne.mpr h]]; rfl

theorem loss_at (y : Vec Ideal S1x4096 .i32) (d : Vec Ideal S1x1 .f32) :
    k0_pay13 (F := Ideal) R y d (ix2 (0 : Fin 1) (0 : Fin 1))
      = d (ix2 (0 : Fin 1) (0 : Fin 1))
        + (∑ j : Fin 4096, logp (pair R j) (Spec.named (y (ix2 (0 : Fin 1) j)))) * Ideal.ofBits .f32 0xB8800000#32 := by
  pointwise [k0_pay13, k0_pay4, k0_pay5]
  rw [Fin.sum_univ_one]
  simp only [top_at, total_at, ← choose_named]
  rfl

theorem start_at : k0_pay12 (F := Ideal) (ix2 (0 : Fin 1) (0 : Fin 1)) = 0 := by
  pointwise [k0_pay12]

end Rows

end Cert.KernelIdeal.Body

end
-- ==== Proof.Blocks.lean ====
/-
  The blocks of a point of the grid, read at an index: column `j` of point `t` is sample `4096 * t + j`.
-/
module

public import proofs.«01_k».proof.Proof.Column
public import Idealize.ShloMosaic.Lib.Pipeline.ValueKit

@[expose] public section

set_option maxRecDepth 16384

noncomputable section

namespace Cert.KernelIdeal.Body

open Idealize.ShloMosaic Idealize.ShloMosaic.TcCoe Cert.Spec
open Cert.KernelIdeal Cert.KernelIdeal.Gen
open Idealize.ShloMosaic.Pipeline (Dat Cfg Window)

variable (m : (ℓ : Loc nD τ sig) → Buf (Elt Ideal) ℓ) (c : Dev nD)

theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val] ∧ win0_10.index t = ![0, t.val]
    ∧ win0_11.index t = ![0, t.val] ∧ win0_12.index t = ![0, t.val] ∧ win0_13.index t = ![0, 0] :=
  (by decide +kernel : ∀ t : Fin grid0.N, _)

/-- The samples of a point. -/
def samp (t : Fin cfg0.N) (j : Fin 4096) : Fin 16384 :=
  ⟨4096 * t.val + j.val, by have : t.val < 4 := lt_of_lt_of_eq t.isLt (show cfg0.N = 4 from N_0); omega⟩

/-- The network whose weights and biases are the program's arguments. -/
abbrev net : Net where
  W1 := m ((c : Thread nD τ).loc main_arg3)
  b1 := m ((c : Thread nD τ).loc main_arg4)
  W2 := m ((c : Thread nD τ).loc main_arg5)
  b2 := m ((c : Thread nD τ).loc main_arg6)
  W3 := m ((c : Thread nD τ).loc main_arg7)
  b3 := m ((c : Thread nD τ).loc main_arg8)
  W4 := m ((c : Thread nD τ).loc main_arg9)
  b4 := m ((c : Thread nD τ).loc main_arg10)

/-- A sample's row of the texts. -/
abbrev text (i : Fin 16384) (d : Fin 500) : EReal :=
  (m ((c : Thread nD τ).loc main_arg0) : Vec Ideal S16384x500 .f32) (ix2 i d)

/-- Its label. -/
abbrev label (i : Fin 16384) : BitVec 32 := (m ((c : Thread nD τ).loc main_arg2) : Vec Ideal S16384 .i32) (ix1 i)

/-- What the host lines before the launch leave: the texts transposed, the labels and the biases as single rows, the
    second and the last weights transposed. -/
theorem entries :
    V m c main_call0_v0 = transpose S500x16384 [1, 0] (m ((c : Thread nD τ).loc main_arg0)) transposes_S16384x500_S500x16384_1_0
    ∧ V m c main_call0_v1 = shapeCast S1x16384 (m ((c : Thread nD τ).loc main_arg2)) shapeCasts_S16384_S1x16384
    ∧ V m c main_call0_v2 = shapeCast S1x128 (m ((c : Thread nD τ).loc main_arg4)) shapeCasts_S128_S1x128
    ∧ V m c main_call0_v3 = transpose S64x128 [1, 0] (m ((c : Thread nD τ).loc main_arg5)) transposes_S128x64_S64x128_1_0
    ∧ V m c main_call0_v4 = shapeCast S1x64 (m ((c : Thread nD τ).loc main_arg6)) shapeCasts_S64_S1x64
    ∧ V m c main_call0_v5 = shapeCast S1x64 (m ((c : Thread nD τ).loc main_arg8)) shapeCasts_S64_S1x64
    ∧ V m c main_call0_v6 = transpose S2x64 [1, 0] (m ((c : Thread nD τ).loc main_arg9)) transposes_S64x2_S2x64_1_0
    ∧ V m c main_call0_v7 = shapeCast S1x2 (m ((c : Thread nD τ).loc main_arg10)) shapeCasts_S2_S1x2 := by
  refine ⟨?_, ?_, ?_, ?_, ?_, ?_, ?_, ?_⟩ <;>
    (unfold V V0; simp only [List.flatten_cons, List.flatten_nil, List.append_nil]; after_results; try rfl)

variable (t : Fin cfg0.N)

/-- A sample's place in a list of all of them is its place in the single row of them. -/
theorem same_place (i : Fin 16384) : (S16384.rowMajor (ix1 i)).val = (S1x16384.rowMajor (ix2 (0 : Fin 1) i)).val := by
  rw [Shape.rowMajor_val_one, Shape.rowMajor_val_two]
  show i.val = 0 * 16384 + i.val
  omega

theorem in0_at (j : Fin 4096) : in0 m c t (ix2 (0 : Fin 1) j) = label m c (samp t j) := by
  unfold in0
  blk_simp [iblk, idx t]
  rw [(entries m c).2.1, show (win0_0.blk t).view.emb (ix2 (0 : Fin 1) j) = ix2 (0 : Fin 1) (samp t j) by blk_ext [idx t, samp]]
  exact shapeCast_apply _ _ _ _ (same_place (samp t j))

theorem texts_at (d : Fin 500) (j : Fin 4096) :
    blockVec c (opnd m c) (Ring.bk 4 t.val) (ix3 (0 : Fin 1) d j) = text m c (samp t j) d := by
  have h4 : t.val < 4 := lt_of_lt_of_eq t.isLt (show cfg0.N = 4 from N_0)
  unfold opnd
  rw [(entries m c).1]
  unfold blockVec
  pointwise
  simp only [Ring.bk_val h4]
  blk_point [samp]

/-- What a point is handed of the weights and biases is the network. -/
theorem loads : Loads (net m c) (in1 m c t) (in2 m c t) (in3 m c t) (in4 m c t) (in5 m c t) (in6 m c t) (in7 m c t)
    (in8 m c t) where
  W1 d k := by
    unfold in1
    blk_point [iblk, V, idx t]
  b1 k := by
    unfold in2
    blk_simp [iblk, idx t]
    rw [(entries m c).2.2.1, show (win0_2.blk t).view.emb (ix2 (0 : Fin 1) k) = ix2 (0 : Fin 1) k by blk_ext [idx t]]
    pointwise
  W2 q k := by
    unfold in3
    blk_simp [iblk, idx t]
    rw [(entries m c).2.2.2.1]
    pointwise
    blk_point [idx t]
  b2 q := by
    unfold in4
    blk_simp [iblk, idx t]
    rw [(entries m c).2.2.2.2.1, show (win0_4.blk t).view.emb (ix2 (0 : Fin 1) q) = ix2 (0 : Fin 1) q by blk_ext [idx t]]
    pointwise
  W3 p q := by
    unfold in5
    blk_point [iblk, V, idx t]
  b3 q := by
    unfold in6
    blk_simp [iblk, idx t]
    rw [(entries m c).2.2.2.2.2.1, show (win0_6.blk t).view.emb (ix2 (0 : Fin 1) q) = ix2 (0 : Fin 1) q by blk_ext [idx t]]
    pointwise
  W4 n q := by
    unfold in7
    blk_simp [iblk, idx t]
    rw [(entries m c).2.2.2.2.2.2.1]
    pointwise
    blk_point [idx t]
  b4 n := by
    unfold in8
    blk_simp [iblk, idx t]
    rw [(entries m c).2.2.2.2.2.2.2, show (win0_8.blk t).view.emb (ix2 (0 : Fin 1) n) = ix2 (0 : Fin 1) n by blk_ext [idx t]]
    pointwise

/-! ### The point's values -/

theorem projAt_at (q : Fin 64) (j : Fin 4096) : projAt m c t (ix2 q j) = (net m c).prj (text m c (samp t j)) q := by
  unfold projAt proj hidden
  rw [proj_at (loads m c t)]
  exact congrArg (fun x => (net m c).prj x q) (funext fun d => texts_at m c t d j)

theorem rowsAt_at (n : Fin 2) (j : Fin 4096) : rowsAt m c t (ix2 n j) = (net m c).score (text m c (samp t j)) n := by
  unfold rowsAt rows hidden
  rw [rows_at (loads m c t)]
  exact congrArg (fun x => (net m c).score x n) (funext fun d => texts_at m c t d j)

end Cert.KernelIdeal.Body

end
-- ==== Proof.Pre.lean ====
/-
  What the precondition says: every entry the network reads is a number, and every label names a class.
-/
module

public import proofs.«01_k».proof.Defs
public import proofs.«01_k».proof.Proof.Blocks

@[expose] public section

set_option maxRecDepth 16384

noncomputable section

namespace Cert.Pre_numbers_and_classes

open Idealize.ShloMosaic Cert.Spec

theorem facts : Facts := by constructor <;> decide

theorem isNum_of_mask {s : Shape} {a : FVec Ideal s .f32} {hb : S_.BroadcastsInDim s (![] : Fin 0 → Fin s.rank)}
    (h : cmpf .olt (Host.absf a) (broadcastInDim s ![] hb (constant S_ .f32 0x7F800000#32)) = fun _ => 1#1) (i : s.Idx) :
    IsNum (a i) := by
  have e := congrFun h i
  refine isNum_of_abs ?_
  rw [← ofBits_top]
  change BitVec.ofBool (decide (max (a i) (-(a i)) < Ideal.ofBits .f32 0x7F800000#32)) = 1#1 at e
  by_contra hn
  rw [decide_eq_false hn] at e
  exact absurd e (by decide)

theorem class_of_mask {y : BitVec 32} (h : IntOp.andi (IntOp.cmpi .sge y 0#32) (IntOp.cmpi .slt y 2#32) = 1#1) :
    y = 0#32 ∨ y = 1#32 := by
  change BitVec.ofBool (BitVec.sle 0#32 y) &&& BitVec.ofBool (BitVec.slt y 2#32) = 1#1 at h
  have lo : BitVec.sle 0#32 y = true := by
    by_contra hn
    rw [Bool.eq_false_of_not_eq_true hn] at h
    revert h
    cases BitVec.slt y 2#32 <;> decide
  have hi : BitVec.slt y 2#32 = true := by
    by_contra hn
    rw [lo, Bool.eq_false_of_not_eq_true hn] at h
    exact absurd h (by decide)
  rw [BitVec.sle_iff_toInt_le] at lo
  rw [BitVec.slt_iff_toInt_lt] at hi
  change 0 ≤ y.toInt at lo
  change y.toInt < 2 at hi
  rcases (by omega : y.toInt = 0 ∨ y.toInt = 1) with e | e
  · exact .inl (BitVec.eq_of_toInt_eq e)
  · exact .inr (BitVec.eq_of_toInt_eq e)

open Cert.KernelIdeal.Body in
theorem holds [Facts] {m : (ℓ : Loc Cert.KernelIdeal.nD Cert.KernelIdeal.τ Cert.KernelIdeal.sig) → Buf (Elt Ideal) ℓ}
    (h : Cert.Pre_KernelIdeal_numbers_and_classes m) (c : Dev Cert.KernelIdeal.nD) :
    (∀ i, label m c i = 0#32 ∨ label m c i = 1#32) ∧ (∀ i d, IsNum (text m c i d)) ∧ (net m c).Num := by
  obtain ⟨hy, hx, h1, h2, h3, h4, h5, h6, h7, h8⟩ := h c
  exact ⟨fun i => class_of_mask (congrFun hy (ix1 i)), fun i d => isNum_of_mask hx (ix2 i d),
    isNum_of_mask h1, isNum_of_mask h2, isNum_of_mask h3, isNum_of_mask h4, isNum_of_mask h5, isNum_of_mask h6,
    isNum_of_mask h7, isNum_of_mask h8⟩

end Cert.Pre_numbers_and_classes

end
-- ==== Proof.Arrays.lean ====
/-
  What the launch's outputs hold when it has ended, as the mathematics of the samples.
-/
module

public import proofs.«01_k».proof.Proof.Blocks
public import proofs.«01_k».proof.Proof.After

@[expose] public section

set_option maxRecDepth 16384

noncomputable section

namespace Cert.KernelIdeal.Body

open Idealize.ShloMosaic Idealize.ShloMosaic.TcCoe Cert.Spec
open Cert.KernelIdeal Cert.KernelIdeal.Gen
open Idealize.ShloMosaic.Pipeline (Dat Cfg Window)

variable (m : (ℓ : Loc nD τ sig) → Buf (Elt Ideal) ℓ) (c : Dev nD)

/-- The two scores of a sample. -/
abbrev sc (i : Fin 16384) (n : Fin 2) : EReal := (net m c).score (text m c i) n

/-- The logarithm of the probability of a sample's own class. -/
abbrev own (i : Fin 16384) : EReal := logp (sc m c i) (Spec.named (label m c i))

theorem pair_eq (t : Fin cfg0.N) (j : Fin 4096) : pair (rowsAt m c t) j = sc m c (samp t j) :=
  funext fun n => rowsAt_at m c t n j

theorem ix2_eta {a b : ℕ} (y : (⟨2, ![a, b]⟩ : Shape).Idx) : y = ix2 (y 0) (y 1) := by
  funext k
  match k with
  | ⟨0, _⟩ => rfl
  | ⟨1, _⟩ => rfl

theorem logits_eq (h : ∀ i n, IsNum (sc m c i n)) :
    result m c 9 = fun x : S2x16384.Idx => prob (sc m c (x 1)) (x 0) := by
  refine (dats m 0 c).arrAt_eq_of_covers 9 _ (by decide +kernel) fun t _ y => ?_
  blk_simp
  rw [after9]
  obtain ⟨n, j, rfl⟩ : ∃ n j, y = ix2 n j := ⟨_, _, ix2_eta y⟩
  rw [show (win0_9.blk t).view.emb (ix2 n j) = ix2 n (samp t j) by blk_ext [idx t, samp],
    soft_at _ j n (by rw [pair_eq]; exact h _), pair_eq]
  rfl

theorem preds_eq : result m c 10 = fun x : S1x16384.Idx => best (sc m c (x 1)) := by
  refine (dats m 0 c).arrAt_eq_of_covers 10 _ (by decide +kernel) fun t _ y => ?_
  blk_simp
  rw [after10]
  obtain ⟨n, j, rfl⟩ : ∃ n j, y = ix2 n j := ⟨_, _, ix2_eta y⟩
  obtain rfl : n = (0 : Fin 1) := Subsingleton.elim _ _
  rw [show (win0_10.blk t).view.emb (ix2 (0 : Fin 1) j) = ix2 (0 : Fin 1) (samp t j) by blk_ext [idx t, samp], best_at, pair_eq]
  rfl

theorem proj_eq : result m c 11 = fun x : S64x16384.Idx => (net m c).prj (text m c (x 1)) (x 0) := by
  refine (dats m 0 c).arrAt_eq_of_covers 11 _ (by decide +kernel) fun t _ y => ?_
  blk_simp
  rw [after11]
  obtain ⟨q, j, rfl⟩ : ∃ n j, y = ix2 n j := ⟨_, _, ix2_eta y⟩
  rw [show (win0_11.blk t).view.emb (ix2 q j) = ix2 q (samp t j) by blk_ext [idx t, samp], projAt_at]
  rfl

theorem vectors_eq : result m c 12 = fun x : S64x16384.Idx => (net m c).prj (text m c (x 1)) (x 0) := by
  refine (dats m 0 c).arrAt_eq_of_covers 12 _ (by decide +kernel) fun t _ y => ?_
  blk_simp
  rw [after12]
  obtain ⟨q, j, rfl⟩ : ∃ n j, y = ix2 n j := ⟨_, _, ix2_eta y⟩
  rw [show (win0_12.blk t).view.emb (ix2 q j) = ix2 q (samp t j) by blk_ext [idx t, samp], projAt_at]
  rfl

/-- A point adds its own samples' part. -/
theorem step_at (t : Fin cfg0.N) (d : Vec Ideal S1x1 .f32) :
    k0_pay13 (F := Ideal) (rowsAt m c t) (in0 m c t) d (ix2 (0 : Fin 1) (0 : Fin 1))
      = d (ix2 (0 : Fin 1) (0 : Fin 1))
        + (∑ j : Fin 4096, own m c (samp t j)) * Ideal.ofBits .f32 0xB8800000#32 := by
  rw [loss_at]
  simp only [pair_eq, in0_at]

/-- The last point. -/
def last : Fin cfg0.N := ⟨3, lt_of_lt_of_eq (by omega) (show cfg0.N = 4 from N_0).symm⟩

theorem lossAt_last (h : ∀ i, IsNum (own m c i)) :
    lossAt m c last.val last.isLt (ix2 (0 : Fin 1) (0 : Fin 1)) = negMean (own m c) := by
  show lossAt m c 3 _ _ = _
  simp only [lossAt, step_at, start_at]
  exact negMean_eq h

theorem loss_eq (h : ∀ i, IsNum (own m c i)) : result m c 13 = fun _ : S1x1.Idx => negMean (own m c) := by
  refine (dats m 0 c).arrAt_eq_of_after_last 13 last (by decide +kernel) _ fun y => ?_
  blk_simp
  rw [after13]
  obtain rfl : y = ix2 (0 : Fin 1) (0 : Fin 1) :=
    (ix2_eta y).trans (congrArg₂ ix2 (Subsingleton.elim (α := Fin 1) _ _) (Subsingleton.elim (α := Fin 1) _ _))
  exact lossAt_last m c h

end Cert.KernelIdeal.Body

end
-- ==== Proof.Ref.lean ====
/-
  The reference's stages, named: each is a few host operations of its program on the stage before.
  `run` says that the reference leaves the five results written with those names.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Ref

open Idealize.ShloMosaic Idealize.SL Idealize.SL.Sem
open Cert.ReferenceIdeal Cert.ReferenceIdeal.Gen

variable {F : FTy → Type} [FloatOps F]

/-- The texts through the first weight matrix, with its bias. -/
def lin1 (X : Vec F S16384x500 .f32) (W : Vec F S500x128 .f32) (b : Vec F S128 .f32) : Vec F S16384x128 .f32 :=
  addf (Host.dotGeneral dot_S16384x500_S500x128_S16384x128_1_0_0_1_n_n none X W)
    (broadcastInDim S16384x128 ![0, 1] bcast_S1x128_S16384x128_0_1 (broadcastInDim S1x128 ![1] bcast_S128_S1x128_1 b))

/-- What is negative is scaled down, on a matrix of 128 columns. -/
def leaky128 (x : Vec F S16384x128 .f32) : Vec F S16384x128 .f32 :=
  select (cmpf .oge x (broadcastInDim S16384x128 ![] bcast_S_S16384x128 (constant S_ .f32 0x00000000#32))) x
    (mulf (broadcastInDim S16384x128 ![] bcast_S_S16384x128 (constant S_ .f32 0x3C23D70A#32)) x)

/-- The second layer: the projection. -/
def lin2 (h : Vec F S16384x128 .f32) (W : Vec F S128x64 .f32) (b : Vec F S64 .f32) : Vec F S16384x64 .f32 :=
  addf (Host.dotGeneral dot_S16384x128_S128x64_S16384x64_1_0_0_1_n_n none h W)
    (broadcastInDim S16384x64 ![0, 1] bcast_S1x64_S16384x64_0_1 (broadcastInDim S1x64 ![1] bcast_S64_S1x64_1 b))

/-- The third layer. -/
def lin3 (p : Vec F S16384x64 .f32) (W : Vec F S64x64 .f32) (b : Vec F S64 .f32) : Vec F S16384x64 .f32 :=
  addf (Host.dotGeneral dot_S16384x64_S64x64_S16384x64_1_0_0_1_n_n none p W)
    (broadcastInDim S16384x64 ![0, 1] bcast_S1x64_S16384x64_0_1 (broadcastInDim S1x64 ![1] bcast_S64_S1x64_1 b))

/-- What is negative is scaled down, on a matrix of 64 columns. -/
def leaky64 (x : Vec F S16384x64 .f32) : Vec F S16384x64 .f32 :=
  select (cmpf .oge x (broadcastInDim S16384x64 ![] bcast_S_S16384x64 (constant S_ .f32 0x00000000#32))) x
    (mulf (broadcastInDim S16384x64 ![] bcast_S_S16384x64 (constant S_ .f32 0x3C23D70A#32)) x)

/-- The fourth layer: the two class scores of a sample. -/
def lin4 (q : Vec F S16384x64 .f32) (W : Vec F S64x2 .f32) (b : Vec F S2 .f32) : Vec F S16384x2 .f32 :=
  addf (Host.dotGeneral dot_S16384x64_S64x2_S16384x2_1_0_0_1_n_n none q W)
    (broadcastInDim S16384x2 ![0, 1] bcast_S1x2_S16384x2_0_1 (broadcastInDim S1x2 ![1] bcast_S2_S1x2_1 b))

/-- A column of 16384 numbers repeated over the two classes. -/
def both (x : Vec F S16384x1 .f32) : Vec F S16384x2 .f32 :=
  broadcastInDim S16384x2 ![0, 1] bcast_S16384x1_S16384x2_0_1 x

/-- The scores less the larger of the two. -/
def centred (r : Vec F S16384x2 .f32) : Vec F S16384x2 .f32 :=
  subf r (both (broadcastInDim S16384x1 ![0] bcast_S16384_S16384x1_0
    (maximumf (broadcastInDim S16384 ![] bcast_S_S16384 (constant S_ .f32 0xFF800000#32))
      (Host.reduce FloatOps.maximumf r (constant S_ .f32 0xFF800000#32) reducesTo_S16384x2_S16384_d1 h_S_))))

/-- The sum over the two classes, as a column. -/
def total (e : Vec F S16384x2 .f32) : Vec F S16384x1 .f32 :=
  broadcastInDim S16384x1 ![0] bcast_S16384_S16384x1_0
    (Host.reduceAdd e (constant S_ .f32 0x00000000#32) reducesTo_S16384x2_S16384_d1 h_S_)

/-- The probabilities. -/
def soft (r : Vec F S16384x2 .f32) : Vec F S16384x2 .f32 :=
  Host.divf (Host.exp (centred r)) (both (total (Host.exp (centred r))))

/-- Their logarithms. -/
def logSoft (r : Vec F S16384x2 .f32) : Vec F S16384x2 .f32 :=
  subf (centred r) (both (Host.log (total (Host.exp (centred r)))))

/-- The place of the larger score. -/
def argmax (r : Vec F S16384x2 .f32) : Vec F S16384 .i32 :=
  fun j => (Host.argReduce reducer_argmax_f32_i32 r (iotaInDim S16384x2 32 1) (constant S_ .f32 0xFF800000#32)
    (constantI S_ 32 0#32) reducesTo_S16384x2_S16384_d1 h_S_ j).2

/-- The labels as places to read, a negative one counted from the end. -/
def places (y : Vec F S16384 .i32) : Vec F S16384x1 .i32 :=
  let y1 : IVec S16384x1 32 := broadcastInDim S16384x1 ![0] bcast_S16384_S16384x1_0 y
  select (cmpi .slt y1 (broadcastInDim S16384x1 ![] bcast_S_S16384x1 (constantI S_ 32 0#32)))
    (addi y1 (broadcastInDim S16384x1 ![] bcast_S_S16384x1 (constantI S_ 32 2#32))) y1

/-- Whether a place is one of the two. -/
def inRange (p : Vec F S16384x1x1 .i32) : Vec F S16384x1 .i1 :=
  Host.reduce IntOp.andi
    (andi (cmpi .sge p (broadcastInDim S16384x1x1 ![] bcast_S_S16384x1x1 (constantI S_ 32 0#32)))
      (cmpi .sle p (broadcastInDim S16384x1x1 ![0, 1, 2] bcast_S1x1x1_S16384x1x1_0_1_2
        (broadcastInDim S1x1x1 ![2] bcast_S1_S1x1x1_2 (constantI S1 32 1#32)))))
    (constantI S_ 1 1#1) reducesTo_S16384x1x1_S16384x1_d2 h_S_

/-- The entry of a sample's row its label names. -/
def pick (l : Vec F S16384x2 .f32) (y : Vec F S16384 .i32) : Vec F S16384x1 .f32 :=
  let p : IVec S16384x1x1 32 := shapeCast S16384x1x1 (places (F := F) y) shapeCasts_S16384x1_S16384x1x1
  select (inRange (F := F) p) (Host.gather gather_S16384x2_S16384x1x1_S16384x1_n_1_0_0_1_2_11 l p)
    (broadcastInDim S16384x1 ![] bcast_S_S16384x1 (constant S_ .f32 0x7FC00000#32))

/-- The mean of the entries picked, negated. -/
def nll (l : Vec F S16384x1 .f32) : Vec F S_ .f32 :=
  Host.negf (Host.divf (Host.reduceAdd l (constant S_ .f32 0x00000000#32) reducesTo_S16384x1_S_d0_1 h_S_)
    (constant S_ .f32 0x46800000#32))

variable (m : (ℓ : Loc nD τ sig) → Buf (Elt F) ℓ)

/-- The projection the reference computes from the arguments on chip `c`. -/
def proj (c : Dev nD) : Vec F S16384x64 .f32 :=
  lin2 (leaky128 (lin1 (m ((c.tc : Thread nD τ).loc main_arg0)) (m ((c.tc : Thread nD τ).loc main_arg3))
    (m ((c.tc : Thread nD τ).loc main_arg4)))) (m ((c.tc : Thread nD τ).loc main_arg5))
    (m ((c.tc : Thread nD τ).loc main_arg6))

/-- The scores, likewise. -/
def raw (c : Dev nD) : Vec F S16384x2 .f32 :=
  lin4 (leaky64 (lin3 (proj m c) (m ((c.tc : Thread nD τ).loc main_arg7)) (m ((c.tc : Thread nD τ).loc main_arg8))))
    (m ((c.tc : Thread nD τ).loc main_arg9)) (m ((c.tc : Thread nD τ).loc main_arg10))

set_option maxRecDepth 200000 in
set_option maxHeartbeats 1600000 in
/-- What the reference leaves in its results; its arguments are as they were. -/
theorem run (g : Dev nD → PrngReg) :
    θ_run (defs (F := F)) (onTc (τ := τ) (main (F := F))) ⟨m, fun _ => 0, g⟩ (fun r => ∀ c : Dev nD,
      r.2.mem ((c.tc : Thread nD τ).loc main_v44) = soft (raw m c)
      ∧ r.2.mem ((c.tc : Thread nD τ).loc main_v33) = argmax (raw m c)
      ∧ r.2.mem ((c.tc : Thread nD τ).loc main_v12) = proj m c
      ∧ r.2.mem ((c.tc : Thread nD τ).loc main_v13)
        = broadcastInDim S16384x1x64 ![0, 2] bcast_S16384x64_S16384x1x64_0_2 (proj m c)
      ∧ r.2.mem ((c.tc : Thread nD τ).loc main_v32)
        = nll (pick (logSoft (raw m c)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  hlo_run
  · rfl
  · rfl
  · rfl
  · rfl
  · rfl

end Cert.ReferenceIdeal.Ref

end
-- ==== Proof.RefAt.lean ====
/-
  The reference's stages read at an index: they are the mathematics of one sample.
-/
module

public import proofs.«01_k».proof.Proof.Ref
public import proofs.«01_k».proof.Proof.Spec

@[expose] public section

set_option maxRecDepth 16384

noncomputable section

namespace Cert.ReferenceIdeal.Ref

open Idealize.ShloMosaic Cert.Spec
open Cert.ReferenceIdeal Cert.ReferenceIdeal.Gen

variable (X : Vec Ideal S16384x500 .f32) (N : Net) (i : Fin 16384)

/-- A sample's row of the texts. -/
abbrev row (d : Fin 500) : EReal := X (ix2 i d)

theorem hid_at (k : Fin 128) : leaky128 (lin1 X N.W1 N.b1) (ix2 i k) = N.hid (row X i) k := by
  pointwise [leaky128, lin1]
  rfl

theorem prj_at (q : Fin 64) : lin2 (leaky128 (lin1 X N.W1 N.b1)) N.W2 N.b2 (ix2 i q) = N.prj (row X i) q := by
  pointwise [lin2]
  simp only [hid_at]
  rfl

theorem cls_at (q : Fin 64) :
    leaky64 (lin3 (lin2 (leaky128 (lin1 X N.W1 N.b1)) N.W2 N.b2) N.W3 N.b3) (ix2 i q) = N.cls (row X i) q := by
  pointwise [leaky64, lin3]
  simp only [prj_at]
  rfl

theorem score_at (n : Fin 2) :
    lin4 (leaky64 (lin3 (lin2 (leaky128 (lin1 X N.W1 N.b1)) N.W2 N.b2) N.W3 N.b3)) N.W4 N.b4 (ix2 i n)
      = N.score (row X i) n := by
  pointwise [lin4]
  simp only [cls_at]
  rfl

variable (r : Vec Ideal S16384x2 .f32)

/-- A sample's two scores. -/
abbrev scores (n : Fin 2) : EReal := r (ix2 i n)

theorem fold_max (f : Fin 2 → EReal) : Finset.univ.fold max ⊥ f = max (f 0) (f 1) := by
  rw [show (Finset.univ : Finset (Fin 2)) = {0, 1} from rfl, Finset.fold_insert (by decide), Finset.fold_singleton,
    max_bot_right]

theorem centred_at (n : Fin 2) : centred r (ix2 i n) = shift (scores i r) n := by
  pointwise [centred, both]
  rw [ofBits_bot, fold_max, max_bot_left]
  rfl

theorem soft_at (n : Fin 2) : soft r (ix2 i n) = prob (scores i r) n := by
  pointwise [soft, both, Ref.total]
  simp only [centred_at, Fin.sum_univ_two]
  rfl

theorem logSoft_at (n : Fin 2) : logSoft r (ix2 i n) = logp (scores i r) n := by
  pointwise [logSoft, both, Ref.total]
  simp only [centred_at, Fin.sum_univ_two]
  rfl

theorem nll_at (l : Vec Ideal S16384x1 .f32) : nll l ix0 = negMean fun i => l (ix2 i (0 : Fin 1)) := by
  pointwise [nll]
  rw [ofBits_count]
  simp only [Fin.sum_univ_one]
  rfl

/-! ### The arg-max -/

theorem drop_at (a : Fin 16384) (b : Fin 2) : reducesTo_S16384x2_S16384_d1.drop (ix2 a b) = ix1 a := by
  funext x
  obtain rfl : x = 0 := Subsingleton.elim _ _
  rfl

/-- The entries a sample's arg-max goes over are its two, the first class first. -/
theorem fiber (i : Fin 16384) :
    ((List.finRange S16384x2.numel).filter fun n => reducesTo_S16384x2_S16384_d1.drop (S16384x2.rowMajor.symm n) = ix1 i)
      = [S16384x2.rowMajor (ix2 i 0), S16384x2.rowMajor (ix2 i 1)] := by
  have lt : S16384x2.rowMajor (ix2 i 0) < S16384x2.rowMajor (ix2 i 1) := by
    rw [Fin.lt_def, Shape.rowMajor_val_two, Shape.rowMajor_val_two]
    show i.val * 2 + 0 < i.val * 2 + 1
    omega
  have pl := (List.pairwise_lt_finRange S16384x2.numel).filter
    fun n => decide (reducesTo_S16384x2_S16384_d1.drop (S16384x2.rowMajor.symm n) = ix1 i)
  have pr : List.Pairwise (· < ·) [S16384x2.rowMajor (ix2 i 0), S16384x2.rowMajor (ix2 i 1)] := by simpa using lt
  refine List.Perm.eq_of_pairwise' pl pr ?_
  refine (List.perm_ext_iff_of_nodup (pl.imp fun h => h.ne) (pr.imp fun h => h.ne)).mpr fun n => ?_
  obtain ⟨k, rfl⟩ := S16384x2.rowMajor.surjective n
  obtain ⟨a, b, rfl⟩ : ∃ (a : Fin 16384) (b : Fin 2), k = ix2 a b := ⟨k 0, k 1, eq_ix2 k⟩
  rw [List.mem_filter, Equiv.symm_apply_apply, drop_at]
  simp only [List.mem_finRange, true_and, decide_eq_true_eq, List.mem_cons, List.not_mem_nil, or_false,
    EmbeddingLike.apply_eq_iff_eq, ix2_inj]
  constructor
  · intro h
    obtain rfl : a = i := congrFun h 0
    rcases Fin.exists_fin_two.mp ⟨b, rfl⟩ with h | h
    · exact .inl ⟨rfl, h⟩
    · exact .inr ⟨rfl, h⟩
  · rintro (⟨rfl, -⟩ | ⟨rfl, -⟩) <;> rfl

/-- Of two scores, the arg-max is the place of the larger one, the first of equals. -/
theorem reducer_two (u v : EReal) :
    (reducer_argmax_f32_i32 (F := Ideal) (reducer_argmax_f32_i32 (F := Ideal) (⊥, 0#32) (u, 0#32)) (v, 1#32)).2
      = if u < v then 1#32 else 0#32 := by
  have first : reducer_argmax_f32_i32 (F := Ideal) (⊥, 0#32) (u, 0#32) = (u, 0#32) := by
    simp only [reducer_argmax_f32_i32, Ideal.cmpf_def, Ideal.cmp]
    by_cases h : (⊥ : EReal) = u <;> simp [h, Scalar.select, IntOp.ori, IntOp.andi, IntOp.cmpi]
  rw [first]
  simp only [reducer_argmax_f32_i32, Ideal.cmpf_def, Ideal.cmp]
  rcases lt_trichotomy u v with h | h | h
  · simp [h, h.not_gt, h.ne, Scalar.select, IntOp.ori, IntOp.andi, IntOp.cmpi]
  · simp [h, Scalar.select, IntOp.ori, IntOp.andi, IntOp.cmpi]
  · simp [h, h.not_gt, h.ne', Scalar.select, IntOp.ori, IntOp.andi, IntOp.cmpi]

theorem argmax_at : argmax r (ix1 i) = best (scores i r) := by
  unfold argmax
  rw [Ideal.argReduce_eq_reduce2]
  unfold Host.reduce2
  rw [fiber]
  simp only [List.foldl_cons, List.foldl_nil, Equiv.symm_apply_apply]
  refine Eq.trans ?_ (reducer_two _ _)
  rw [show (⊥ : EReal) = _ from ofBits_bot.symm]
  rfl

/-! ### The entry picked -/

/-- The gather reads, of a sample's row, the entry its place names, clamped into the two. -/
theorem gather_at (p : IVec S16384x1x1 32) :
    Host.gather gather_S16384x2_S16384x1x1_S16384x1_n_1_0_0_1_2_11 r p (ix2 i (0 : Fin 1))
      = r (ix2 i ⟨min (p (ix3 i (0 : Fin 1) (0 : Fin 1))).toInt.toNat 1, by omega⟩) := by
  unfold Host.gather
  refine congrArg r ?_
  funext a
  refine Fin.ext ?_
  match a with
  | ⟨0, _⟩ => exact Nat.zero_add i.val
  | ⟨1, _⟩ =>
    show min (p (GatherDims.siIdx _ _ _)).toInt.toNat 1 + 0 + 0 = min (p (ix3 i (0 : Fin 1) (0 : Fin 1))).toInt.toNat 1
    refine congrArg (fun z => min (p z).toInt.toNat 1) ?_
    funext b
    match b with
    | ⟨0, _⟩ => rfl
    | ⟨1, _⟩ => rfl
    | ⟨2, _⟩ => rfl

/-- The place read is the label itself. -/
theorem place_at (y : Vec Ideal S16384 .i32) :
    shapeCast S16384x1x1 (places (F := Ideal) y) shapeCasts_S16384x1_S16384x1x1 (ix3 i (0 : Fin 1) (0 : Fin 1))
      = Scalar.select (IntOp.cmpi .slt (y (ix1 i)) 0#32) (IntOp.addi (y (ix1 i)) 2#32) (y (ix1 i)) := by
  pointwise [places]

theorem inRange_at (p : IVec S16384x1x1 32) :
    inRange (F := Ideal) p (ix2 i (0 : Fin 1))
      = IntOp.andi (IntOp.andi (IntOp.cmpi .sge (p (ix3 i (0 : Fin 1) (0 : Fin 1))) 0#32)
          (IntOp.cmpi .sle (p (ix3 i (0 : Fin 1) (0 : Fin 1))) 1#32)) 1#1 := by
  pointwise [inRange]
  rfl

/-- At a place that is 0 or 1 the entry is the one of that class. -/
theorem take_at (p : IVec S16384x1x1 32) (z : Vec Ideal S16384x1 .f32)
    (h : p (ix3 i (0 : Fin 1) (0 : Fin 1)) = 0#32 ∨ p (ix3 i (0 : Fin 1) (0 : Fin 1)) = 1#32) :
    select (inRange (F := Ideal) p) (Host.gather gather_S16384x2_S16384x1x1_S16384x1_n_1_0_0_1_2_11 r p) z
        (ix2 i (0 : Fin 1))
      = r (ix2 i (named (p (ix3 i (0 : Fin 1) (0 : Fin 1))))) := by
  show Scalar.select (inRange (F := Ideal) _ _) (Host.gather _ _ _ _) _ = _
  rw [inRange_at, gather_at]
  have key : ∀ w : BitVec 32, w = 0#32 ∨ w = 1#32 → ∀ u : EReal,
      Scalar.select (IntOp.andi (IntOp.andi (IntOp.cmpi .sge w 0#32) (IntOp.cmpi .sle w 1#32)) 1#1)
          (r (ix2 i ⟨min w.toInt.toNat 1, by omega⟩)) u = r (ix2 i (named w)) := by
    rintro w (rfl | rfl) u <;> rfl
  exact key _ h _

theorem pick_at (y : Vec Ideal S16384 .i32) (h : y (ix1 i) = 0#32 ∨ y (ix1 i) = 1#32) :
    pick r y (ix2 i (0 : Fin 1)) = r (ix2 i (named (y (ix1 i)))) := by
  have e : shapeCast S16384x1x1 (places (F := Ideal) y) shapeCasts_S16384x1_S16384x1x1 (ix3 i (0 : Fin 1) (0 : Fin 1))
      = y (ix1 i) := by
    rw [place_at]
    rcases h with h | h <;> rw [h] <;> rfl
  refine (take_at i r _ _ (by rw [e]; exact h)).trans ?_
  rw [e]

end Cert.ReferenceIdeal.Ref

end
-- ==== Proof.Equal.lean ====
/-
  The five results of the kernel are the reference's.
-/
module

public import proofs.«01_k».proof.Proof.Arrays
public import proofs.«01_k».proof.Proof.RefAt

@[expose] public section

set_option maxRecDepth 16384

noncomputable section

namespace Cert.Equal

open Idealize.ShloMosaic Idealize.ShloMosaic.TcCoe Cert.Spec
open Cert.KernelIdeal Cert.KernelIdeal.Gen Cert.KernelIdeal.Body

variable (m : (ℓ : Loc nD τ sig) → Buf (Elt Ideal) ℓ) (c : Dev nD)

/-- The reference's projections, of the kernel's arguments. -/
abbrev refProj : Vec Ideal S16384x64 .f32 :=
  ReferenceIdeal.Ref.lin2 (F := Ideal) (ReferenceIdeal.Ref.leaky128 (ReferenceIdeal.Ref.lin1
    (m ((c : Thread nD τ).loc main_arg0)) (net m c).W1 (net m c).b1)) (net m c).W2 (net m c).b2

/-- The reference's scores, of the kernel's arguments. -/
abbrev refScores : Vec Ideal S16384x2 .f32 :=
  ReferenceIdeal.Ref.lin4 (F := Ideal) (ReferenceIdeal.Ref.leaky64 (ReferenceIdeal.Ref.lin3
    (refProj m c) (net m c).W3 (net m c).b3)) (net m c).W4 (net m c).b4

theorem scores_eq (i : Fin 16384) : ReferenceIdeal.Ref.scores i (refScores m c) = sc m c i :=
  funext fun n => ReferenceIdeal.Ref.score_at (m ((c : Thread nD τ).loc main_arg0)) (net m c) i n

theorem logits (h : ∀ i n, IsNum (sc m c i n)) :
    transpose S16384x2 [1, 0] (result m c 9) transposes_S2x16384_S16384x2_1_0
      = ReferenceIdeal.Ref.soft (refScores m c) := by
  rw [logits_eq m c h]
  funext x
  obtain ⟨i, n, rfl⟩ : ∃ i n, x = ix2 i n := ⟨_, _, ix2_eta x⟩
  rw [ReferenceIdeal.Ref.soft_at, scores_eq]
  pointwise

theorem preds : shapeCast S16384 (result m c 10) shapeCasts_S1x16384_S16384
    = ReferenceIdeal.Ref.argmax (refScores m c) := by
  rw [preds_eq]
  funext x
  obtain ⟨i, rfl⟩ : ∃ i, x = ix1 i := ⟨x 0, funext fun k => match k with | ⟨0, _⟩ => rfl⟩
  rw [ReferenceIdeal.Ref.argmax_at, scores_eq]
  exact shapeCast_apply (fun x : S1x16384.Idx => best (sc m c (x 1))) shapeCasts_S1x16384_S16384 (ix1 i) (ix2 (0 : Fin 1) i)
    (same_place i).symm

/-- The projections, in either of the two outputs that hold them. -/
theorem projections {w : S64x16384.Idx → EReal} (h : w = fun x => (net m c).prj (text m c (x 1)) (x 0)) :
    transpose S16384x64 [1, 0] w transposes_S64x16384_S16384x64_1_0 = refProj m c := by
  rw [h]
  funext x
  obtain ⟨i, q, rfl⟩ : ∃ i q, x = ix2 i q := ⟨_, _, ix2_eta x⟩
  rw [refProj, ReferenceIdeal.Ref.prj_at]
  pointwise

theorem proj : transpose S16384x64 [1, 0] (result m c 11) transposes_S64x16384_S16384x64_1_0 = refProj m c :=
  projections m c (proj_eq m c)

theorem vectors : broadcastInDim S16384x1x64 ![0, 2] bcast_S16384x64_S16384x1x64_0_2
      (transpose S16384x64 [1, 0] (result m c 12) transposes_S64x16384_S16384x64_1_0)
    = broadcastInDim S16384x1x64 ![0, 2] bcast_S16384x64_S16384x1x64_0_2 (refProj m c) :=
  congrArg (fun x => broadcastInDim S16384x1x64 ![0, 2] bcast_S16384x64_S16384x1x64_0_2 x) (projections m c (vectors_eq m c))

theorem loss (h : ∀ i n, IsNum (sc m c i n)) (hy : ∀ i, label m c i = 0#32 ∨ label m c i = 1#32) :
    shapeCast S_ (result m c 13) shapeCasts_S1x1_S_
      = ReferenceIdeal.Ref.nll (ReferenceIdeal.Ref.pick (ReferenceIdeal.Ref.logSoft (refScores m c))
          (m ((c : Thread nD τ).loc main_arg2))) := by
  rw [loss_eq m c fun i => isNum_logp (h i) _]
  funext x
  obtain rfl : x = ix0 := funext fun k => k.elim0
  rw [ReferenceIdeal.Ref.nll_at]
  refine congrArg negMean (funext fun i => ?_)
  rw [ReferenceIdeal.Ref.pick_at _ _ _ (hy i), ReferenceIdeal.Ref.logSoft_at, scores_eq]

end Cert.Equal

end
-- ==== Proof.lean ====
/- The certificate: each conjunct from the runs of the programs. -/
module

public import proofs.«01_k».proof.Defs
public import proofs.«01_k».proof.Proof.Same
public import proofs.«01_k».proof.Proof.Pre
public import proofs.«01_k».proof.Proof.Equal
public import proofs.«01_k».proof.Proof.Gen.Kernel
public import proofs.«01_k».proof.Proof.Gen.KernelIdeal
public import proofs.«01_k».proof.Proof.Gen.ReferenceIdeal
public import Idealize.ShloMosaic.Lib.Claim

@[expose] public section

set_option maxRecDepth 16384

noncomputable section

namespace Cert.Proof

open Idealize.ShloMosaic Idealize.SL.Sem

set_option maxHeartbeats 1600000 in
theorem reference : Cert.quiescent_ReferenceIdeal := by
  intro m g _
  hlo_run
  · simp only [and_self, implies_true]
  · exact sem_eq_zero_of_no_sems (sig := Cert.ReferenceIdeal.sig) (by decide) _

instance : Cert.Pre_numbers_and_classes.Facts := Cert.Pre_numbers_and_classes.facts

open Cert.KernelIdeal.Body Cert.Equal in
set_option maxHeartbeats 1600000 in
/-- The kernel's five results are the reference's. -/
theorem equal : Cert.algebraic_KernelIdeal_ReferenceIdeal_pre_numbers_and_classes := by
  pair_intro
  · run_from Cert.KernelIdeal.Body.run m g
  · have hsc c i n := (Cert.Pre_numbers_and_classes.holds hpre c).2.2.score ((Cert.Pre_numbers_and_classes.holds hpre c).2.1 i) n
    have hraw c : Cert.ReferenceIdeal.Ref.raw m' c = refScores m c := by
      obtain ⟨h0, -, h2, h3, h4, h5, h6, h7, h8, h9, h10⟩ := hagree c
      unfold Cert.ReferenceIdeal.Ref.raw Cert.ReferenceIdeal.Ref.proj
      rw [h0, h3, h4, h5, h6, h7, h8, h9, h10]
    have hproj c : Cert.ReferenceIdeal.Ref.proj m' c = refProj m c := by
      obtain ⟨h0, -, h2, h3, h4, h5, h6, h7, h8, h9, h10⟩ := hagree c
      unfold Cert.ReferenceIdeal.Ref.proj
      rw [h0, h3, h4, h5, h6]
    refine θ_run_mono (Cert.ReferenceIdeal.Ref.run m' g') fun r hr c => ?_
    obtain ⟨e0, e1, e2, e3, e4, kept⟩ := hr c
    rw [hraw] at e0 e1 e4
    rw [hproj] at e2 e3
    rw [(hagree c).2.2.1] at e4
    refine ⟨?_, ?_, ?_, ?_, ?_, kept⟩
    · exact e0.trans (Cert.Equal.logits m c (hsc c)).symm
    · exact e1.trans (Cert.Equal.preds m c).symm
    · exact e2.trans (Cert.Equal.proj m c).symm
    · exact e3.trans (Cert.Equal.vectors m c).symm
    · exact e4.trans (Cert.Equal.loss m c (hsc c) (Cert.Pre_numbers_and_classes.holds hpre c).1).symm

theorem claim : Cert.Claim := ⟨Cert.Kernel.Gen.facts, Cert.KernelIdeal.Gen.facts, Cert.ReferenceIdeal.Gen.facts,
  Cert.Pre_numbers_and_classes.facts,
  fun m g _ => Cert.Same.frame_bits m g, fun m g _ => Cert.Same.frame_ideal m g,
  fun m g _ => Cert.Same.frame_ideal m g, reference, fun m g _ => reference m g trivial, trivial, equal⟩

end Cert.Proof

end
